-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_late_step [hPre_late_step : Cert.Pre_late_step.Facts] (m : (ℓ : Loc Cert.KernelIdeal.nD Cert.KernelIdeal.τ Cert.KernelIdeal.sig) → Buf (Elt Ideal) ℓ) : Prop :=
  ∀ c : Dev Cert.KernelIdeal.nD,
    (Cert.Pre_late_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_late_step [hPre_late_step : Cert.Pre_late_step.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_late_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_late_step [hKernelIdeal : Cert.KernelIdeal.Facts] [hPre_late_step : Cert.Pre_late_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_late_step m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_late_step [hReferenceIdeal : Cert.ReferenceIdeal.Facts] [hPre_late_step : Cert.Pre_late_step.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_late_step m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "loss_scale" .f32 0x33E38E39#32 ((1 / 9437184 : ℝ) : EReal)
  ∧ IdealRules.named_const.Statement Cert.KernelIdeal.κ "inv_tokens" .f32 0x38E38E39#32 ((1 / 9216 : ℝ) : EReal)

def algebraic_KernelIdeal_ReferenceIdeal_pre_late_step [hKernelIdeal : Cert.KernelIdeal.Facts] [hReferenceIdeal : Cert.ReferenceIdeal.Facts] [hPre_late_step : Cert.Pre_late_step.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_late_step m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v6_0)) (v4 : (c : Dev Cert.KernelIdeal.nD) → Buf (Elt Ideal) ((c.tc : Thread Cert.KernelIdeal.nD Cert.KernelIdeal.τ).loc Cert.KernelIdeal.main_v8_1)) (v5 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v6_0) = v3 c
          ∧ r.2.mem ((c.tc : Thread Cert.KernelIdeal.nD Cert.KernelIdeal.τ).loc Cert.KernelIdeal.main_v8_1) = v4 c
          ∧ r.2.mem ((c.tc : Thread Cert.KernelIdeal.nD Cert.KernelIdeal.τ).loc Cert.KernelIdeal.main_v8_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v40) = v4 c
          ∧ r.2.mem ((c.tc : Thread Cert.ReferenceIdeal.nD Cert.ReferenceIdeal.τ).loc Cert.ReferenceIdeal.main_v39) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_late_step : Cert.Pre_late_step.Facts),
    quiescent_Kernel (hKernel := hKernel)
    ∧ quiescent_KernelIdeal (hKernelIdeal := hKernelIdeal)
    ∧ quiescent_KernelIdeal_pre_late_step (hKernelIdeal := hKernelIdeal) (hPre_late_step := hPre_late_step)
    ∧ quiescent_ReferenceIdeal (hReferenceIdeal := hReferenceIdeal)
    ∧ quiescent_ReferenceIdeal_pre_late_step (hReferenceIdeal := hReferenceIdeal) (hPre_late_step := hPre_late_step)
    ∧ preserves_Kernel_KernelIdeal
    ∧ algebraic_KernelIdeal_ReferenceIdeal_pre_late_step (hKernelIdeal := hKernelIdeal) (hReferenceIdeal := hReferenceIdeal) (hPre_late_step := hPre_late_step)
-- ==== Pre_late_step.lean ====
abbrev S9216x256 : Shape := ⟨2, ![9216, 256]⟩
abbrev S8192x256 : Shape := ⟨2, ![8192, 256]⟩
abbrev S_ : Shape := ⟨0, ![]⟩

class Facts : Prop where

variable [Facts]

def fn {F : FTy → Type} [FloatOps F] (main_arg0 : FVec F S9216x256 .f32) (main_arg1 : FVec F S8192x256 .f32) (main_arg2 : IVec S_ 32) : IVec S_ 1 :=
  let main_c : IVec S_ 32 := constantI S_ 32 99#32
  let main_v0 : IVec S_ 1 := cmpi .sge main_arg2 main_c
  main_v0
-- ==== Kernel.lean ====
abbrev S9216x256 : Shape := ⟨2, ![9216, 256]⟩
abbrev S8192x256 : Shape := ⟨2, ![8192, 256]⟩
abbrev S_ : Shape := ⟨0, ![]⟩
abbrev S9216 : Shape := ⟨1, ![9216]⟩
abbrev S9216x1 : Shape := ⟨2, ![9216, 1]⟩
abbrev S8192 : Shape := ⟨1, ![8192]⟩
abbrev S1x8192 : Shape := ⟨2, ![1, 8192]⟩
abbrev S9216x8192 : Shape := ⟨2, ![9216, 8192]⟩
abbrev S1x1 : Shape := ⟨2, ![1, 1]⟩
abbrev S128x256 : Shape := ⟨2, ![128, 256]⟩
abbrev S128x1 : Shape := ⟨2, ![128, 1]⟩
abbrev S128x8192 : Shape := ⟨2, ![128, 8192]⟩
abbrev S128 : Shape := ⟨1, ![128]⟩
abbrev S1x128x256 : Shape := ⟨3, ![1, 128, 256]⟩
abbrev S1 : Shape := ⟨1, ![1]⟩
abbrev S1x1x1 : Shape := ⟨3, ![1, 1, 1]⟩
abbrev S8192x1 : Shape := ⟨2, ![8192, 1]⟩
abbrev S1024x256 : Shape := ⟨2, ![1024, 256]⟩
abbrev S1024x1 : Shape := ⟨2, ![1024, 1]⟩
abbrev S1x1x8192 : Shape := ⟨3, ![1, 1, 8192]⟩

abbrev nBuf : Space → Nat
  | .hbm => 24
  | .vmem => 28
  | .smem => 0
  | _ => 0

abbrev bufTy : (tb : Table) → Fin (tcTables nBuf tb) → BufTy
  | .hbm, ⟨0, _⟩ => ⟨S9216x256, .f32⟩
  | .hbm, ⟨1, _⟩ => ⟨S8192x256, .f32⟩
  | .hbm, ⟨2, _⟩ => ⟨S_, .i32⟩
  | .hbm, ⟨3, _⟩ => ⟨S9216x256, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S9216x8192, .f32⟩
  | .hbm, ⟨12, _⟩ => ⟨S9216x256, .f32⟩
  | .hbm, ⟨13, _⟩ => ⟨S8192x256, .f32⟩
  | .hbm, ⟨14, _⟩ => ⟨S1x8192, .f32⟩
  | .hbm, ⟨15, _⟩ => ⟨S1x8192, .f32⟩
  | .hbm, ⟨16, _⟩ => ⟨S1x1, .f32⟩
  | .hbm, ⟨17, _⟩ => ⟨S8192x1, .f32⟩
  | .hbm, ⟨18, _⟩ => ⟨S8192x256, .f32⟩
  | .hbm, ⟨19, _⟩ => ⟨S8192x256, .f32⟩
  | .hbm, ⟨20, _⟩ => ⟨S1x1, .f32⟩
  | .hbm, ⟨21, _⟩ => ⟨S1x1, .f32⟩
  | .hbm, ⟨22, _⟩ => ⟨S_, .f32⟩
  | .hbm, ⟨23, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S8192x256, .f32⟩
  | .local _ .vmem, ⟨3, _⟩ => ⟨S128x1, .f32⟩
  | .local _ .vmem, ⟨4, _⟩ => ⟨S128x1, .f32⟩
  | .local _ .vmem, ⟨5, _⟩ => ⟨S1x8192, .f32⟩
  | .local _ .vmem, ⟨6, _⟩ => ⟨S128x8192, .f32⟩
  | .local _ .vmem, ⟨7, _⟩ => ⟨S128x8192, .f32⟩
  | .local _ .vmem, ⟨8, _⟩ => ⟨S128x256, .f32⟩
  | .local _ .vmem, ⟨9, _⟩ => ⟨S128x256, .f32⟩
  | .local _ .vmem, ⟨10, _⟩ => ⟨S8192x256, .f32⟩
  | .local _ .vmem, ⟨11, _⟩ => ⟨S1x8192, .f32⟩
  | .local _ .vmem, ⟨12, _⟩ => ⟨S1x8192, .f32⟩
  | .local _ .vmem, ⟨13, _⟩ => ⟨S1x1, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x1, .f32⟩
  | .local _ .vmem, ⟨19, _⟩ => ⟨S1024x1, .f32⟩
  | .local _ .vmem, ⟨20, _⟩ => ⟨S1x8192, .f32⟩
  | .local _ .vmem, ⟨21, _⟩ => ⟨S1x1, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1x1, .f32⟩
  | .local _ .vmem, ⟨27, _⟩ => ⟨S1x1, .f32⟩
  | _, _ => ⟨S9216x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg8_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem8_0 : DmaSem sig := 27

abbrev nD : Nat := 1
abbrev τ : Topo := Topo.v7x

variable {F : FTy → Type} [FloatOps F]

abbrev grid0 : Pipeline.Grid := ⟨1, ![72], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_20 : BitVec 32 := 0#32
  let v55 : BitVec 1 := Scalar.cmpi .ne v54 c0_i32_20
  v55

def k0_cond2 (i : grid0.Coords) : BitVec 1 :=
  let arg0 : BitVec 32 := BitVec.ofNat 32 (i 0).val
  let c0_i32_21 : BitVec 32 := 0#32
  let v56 : BitVec 1 := Scalar.cmpi .ne arg0 c0_i32_21
  let v57 : BitVec 32 := Scalar.extui v56
  let c0_i32_22 : BitVec 32 := 0#32
  let v58 : BitVec 1 := Scalar.cmpi .ne v57 c0_i32_22
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8192x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== KernelIdeal.lean ====
variable {F : FTy → Type} [FloatOps F] [Named F]
def κ : String → Option EReal := fun
  | "inv_tokens" => some ((1 / 9216 : ℝ) : EReal)
  | "loss_scale" => some ((1 / 9437184 : ℝ) : EReal)
  | _ => none
-- ==== ReferenceIdeal.lean ====
abbrev S9216x256 : Shape := ⟨2, ![9216, 256]⟩
abbrev S8192x256 : Shape := ⟨2, ![8192, 256]⟩
abbrev S_ : Shape := ⟨0, ![]⟩
abbrev S9216 : Shape := ⟨1, ![9216]⟩
abbrev S9216x1 : Shape := ⟨2, ![9216, 1]⟩
abbrev S8192 : Shape := ⟨1, ![8192]⟩
abbrev S1x8192 : Shape := ⟨2, ![1, 8192]⟩
abbrev S9216x8192 : Shape := ⟨2, ![9216, 8192]⟩
abbrev S256x8192 : Shape := ⟨2, ![256, 8192]⟩
abbrev S8192x9216 : Shape := ⟨2, ![8192, 9216]⟩
abbrev S8192x1 : Shape := ⟨2, ![8192, 1]⟩

abbrev nBuf : Space → Nat
  | .hbm => 92
  | .vmem => 0
  | .smem => 0
  | _ => 0

abbrev bufTy : (tb : Table) → Fin (tcTables nBuf tb) → BufTy
  | .hbm, ⟨0, _⟩ => ⟨S9216x256, .f32⟩
  | .hbm, ⟨1, _⟩ => ⟨S8192x256, .f32⟩
  | .hbm, ⟨2, _⟩ => ⟨S_, .i32⟩
  | .hbm, ⟨3, _⟩ => ⟨S9216x256, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S9216x8192, .f32⟩
  | .hbm, ⟨12, _⟩ => ⟨S9216x8192, .f32⟩
  | .hbm, ⟨13, _⟩ => ⟨S9216x8192, .f32⟩
  | .hbm, ⟨14, _⟩ => ⟨S256x8192, .f32⟩
  | .hbm, ⟨15, _⟩ => ⟨S9216x8192, .f32⟩
  | .hbm, ⟨16, _⟩ => ⟨S_, .f32⟩
  | .hbm, ⟨17, _⟩ => ⟨S9216x8192, .f32⟩
  | .hbm, ⟨18, _⟩ => ⟨S9216x8192, .f32⟩
  | .hbm, ⟨19, _⟩ => ⟨S9216x8192, .f32⟩
  | .hbm, ⟨20, _⟩ => ⟨S9216x8192, .i32⟩
  | .hbm, ⟨21, _⟩ => ⟨S_, .f32⟩
  | .hbm, ⟨22, _⟩ => ⟨S_, .i32⟩
  | .hbm, ⟨23, _⟩ => ⟨S9216, .f32⟩
  | .hbm, ⟨24, _⟩ => ⟨S9216, .i32⟩
  | .hbm, ⟨25, _⟩ => ⟨S9216x1, .i32⟩
  | .hbm, ⟨26, _⟩ => ⟨S1x8192, .i32⟩
  | .hbm, ⟨27, _⟩ => ⟨S9216x8192, .i32⟩
  | .hbm, ⟨28, _⟩ => ⟨S9216x8192, .i32⟩
  | .hbm, ⟨29, _⟩ => ⟨S9216x8192, .i1⟩
  | .hbm, ⟨30, _⟩ => ⟨S9216x8192, .f32⟩
  | .hbm, ⟨31, _⟩ => ⟨S9216x256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S9216x8192, .i32⟩
  | .hbm, ⟨40, _⟩ => ⟨S9216x8192, .f32⟩
  | .hbm, ⟨41, _⟩ => ⟨S9216x8192, .i32⟩
  | .hbm, ⟨42, _⟩ => ⟨S9216x8192, .f32⟩
  | .hbm, ⟨43, _⟩ => ⟨S_, .f32⟩
  | .hbm, ⟨44, _⟩ => ⟨S9216x8192, .f32⟩
  | .hbm, ⟨45, _⟩ => ⟨S9216x8192, .f32⟩
  | .hbm, ⟨46, _⟩ => ⟨S9216x8192, .f32⟩
  | .hbm, ⟨47, _⟩ => ⟨S9216x8192, .f32⟩
  | .hbm, ⟨48, _⟩ => ⟨S9216x8192, .f32⟩
  | .hbm, ⟨49, _⟩ => ⟨S_, .f32⟩
  | .hbm, ⟨50, _⟩ => ⟨S9216x8192, .f32⟩
  | .hbm, ⟨51, _⟩ => ⟨S9216x8192, .i1⟩
  | .hbm, ⟨52, _⟩ => ⟨S_, .f32⟩
  | .hbm, ⟨53, _⟩ => ⟨S_, .f32⟩
  | .hbm, ⟨54, _⟩ => ⟨S9216x8192, .f32⟩
  | .hbm, ⟨55, _⟩ => ⟨S9216x8192, .f32⟩
  | .hbm, ⟨56, _⟩ => ⟨S8192x9216, .f32⟩
  | .hbm, ⟨57, _⟩ => ⟨S8192x256, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x256, .f32⟩
  | .hbm, ⟨62, _⟩ => ⟨S8192x256, .f32⟩
  | .hbm, ⟨63, _⟩ => ⟨S8192x256, .f32⟩
  | .hbm, ⟨64, _⟩ => ⟨S_, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S9216x256, .f32⟩
  | .hbm, ⟨69, _⟩ => ⟨S9216x256, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S9216x256, .f32⟩
  | .hbm, ⟨77, _⟩ => ⟨S9216x256, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S8192, .f32⟩
  | .hbm, ⟨87, _⟩ => ⟨S8192, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v14 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_call2_v0 : Ref sig .tc := ⟨.hbm, 39, rfl⟩
abbrev main_call2_v1_0 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_call3_v0 : Ref sig .tc := ⟨.hbm, 53, rfl⟩
abbrev main_call3_v1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_cst_14 : Ref sig .tc := ⟨.hbm, 80, rfl⟩
abbrev main_v49 : Ref sig .tc := ⟨.hbm, 81, rfl⟩
abbrev main_v50 : Ref sig .tc := ⟨.hbm, 82, rfl⟩
abbrev main_cst_15 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_16 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩

abbrev nD : Nat := 1
abbrev τ : Topo := Topo.v7x

variable {F : FTy → Type} [FloatOps F]
-- ==== Proof.RefVal.lean ====
module

public import proofs.«01_k».proof.Proof.Gen.ReferenceIdeal
public import Idealize.ShloMosaic.Lib.StableHlo.RunHlo
public import Idealize.ShloMosaic.Lib.StableHlo.RunRead
public import Idealize.ShloMosaic.Lib.Pipeline.Frame

@[expose] public section

/-!
# The reference's run

The reference is a straight line of host operations; its four local functions are read in place. The line is cut where a value is
read more than once, and each part's result is stated as a function of what the part reads.
-/

set_option maxRecDepth 16384

noncomputable section

namespace Cert.ReferenceIdeal.Own

open Cert.ReferenceIdeal
open Idealize.ShloMosaic Idealize.ShloMosaic.TcCoe Idealize.SL.Sem
open Idealize.ShloMosaic.StableHlo (after)
open Cert.ReferenceIdeal.Facts₀ Cert.ReferenceIdeal.Facts

variable {F : FTy → Type} [FloatOps F]

/-- The part that computes the squared distances. -/
def opsDist : List (HloOp τ sig (Elt F)) := [
  StableHlo.binary main_arg0 main_arg0 main_v0 (mulf : (⟨S9216x256, .f32⟩ : BufTy).Contents (Elt F) → (⟨S9216x256, .f32⟩ : BufTy).Contents (Elt F) → (⟨S9216x256, .f32⟩ : BufTy).Contents (Elt F)),
  StableHlo.nullary main_cst (constant S_ .f32 0x00000000#32),
  StableHlo.binary main_v0 main_cst main_v1 ((fun x v => Host.reduceAdd x v reducesTo_S9216x256_S9216_d1 h_S_) : (⟨S9216x256, .f32⟩ : BufTy).Contents (Elt F) → (⟨S_, .f32⟩ : BufTy).Contents (Elt F) → (⟨S9216, .f32⟩ : BufTy).Contents (Elt F)),
  StableHlo.unary main_v1 main_v2 (broadcastInDim S9216x1 ![0] bcast_S9216_S9216x1_0 : (⟨S9216, .f32⟩ : BufTy).Contents (Elt F) → (⟨S9216x1, .f32⟩ : BufTy).Contents (Elt F)),
  StableHlo.binary main_arg1 main_arg1 main_v3 (mulf : (⟨S8192x256, .f32⟩ : BufTy).Contents (Elt F) → (⟨S8192x256, .f32⟩ : BufTy).Contents (Elt F) → (⟨S8192x256, .f32⟩ : BufTy).Contents (Elt F)),
  StableHlo.nullary main_cst_0 (constant S_ .f32 0x00000000#32),
  StableHlo.binary main_v3 main_cst_0 main_v4 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
  StableHlo.unary main_v4 main_v5 (broadcastInDim S1x8192 ![1] bcast_S8192_S1x8192_1 : (⟨S8192, .f32⟩ : BufTy).Contents (Elt F) → (⟨S1x8192, .f32⟩ : BufTy).Contents (Elt F)),
  StableHlo.unary main_v2 main_v6 (broadcastInDim S9216x8192 ![0, 1] bcast_S9216x1_S9216x8192_0_1 : (⟨S9216x1, .f32⟩ : BufTy).Contents (Elt F) → (⟨S9216x8192, .f32⟩ : BufTy).Contents (Elt F)),
  StableHlo.unary main_v5 main_v7 (broadcastInDim S9216x8192 ![0, 1] bcast_S1x8192_S9216x8192_0_1 : (⟨S1x8192, .f32⟩ : BufTy).Contents (Elt F) → (⟨S9216x8192, .f32⟩ : BufTy).Contents (Elt F)),
  StableHlo.binary main_v6 main_v7 main_v8 (addf : (⟨S9216x8192, .f32⟩ : BufTy).Contents (Elt F) → (⟨S9216x8192, .f32⟩ : BufTy).Contents (Elt F) → (⟨S9216x8192, .f32⟩ : BufTy).Contents (Elt F)),
  StableHlo.unary main_arg1 main_v9 ((transpose S256x8192 [1, 0] · transposes_S8192x256_S256x8192_1_0) : (⟨S8192x256, .f32⟩ : BufTy).Contents (Elt F) → (⟨S256x8192, .f32⟩ : BufTy).Contents (Elt F)),
  StableHlo.binary main_arg0 main_v9 main_v10 ((fun l r => Host.dotGeneral dot_S9216x256_S256x8192_S9216x8192_1_0_0_1_n_n none l r) : (⟨S9216x256, .f32⟩ : BufTy).Contents (Elt F) → (⟨S256x8192, .f32⟩ : BufTy).Contents (Elt F) → (⟨S9216x8192, .f32⟩ : BufTy).Contents (Elt F)),
  StableHlo.nullary main_cst_1 (constant S_ .f32 0x40000000#32),
  StableHlo.unary main_cst_1 main_v11 (broadcastInDim S9216x8192 ![] bcast_S_S9216x8192 : (⟨S_, .f32⟩ : BufTy).Contents (Elt F) → (⟨S9216x8192, .f32⟩ : BufTy).Contents (Elt F)),
  StableHlo.binary main_v11 main_v10 main_v12 (mulf : (⟨S9216x8192, .f32⟩ : BufTy).Contents (Elt F) → (⟨S9216x8192, .f32⟩ : BufTy).Contents (Elt F) → (⟨S9216x8192, .f32⟩ : BufTy).Contents (Elt F)),
  StableHlo.binary main_v8 main_v12 main_v13 (subf : (⟨S9216x8192, .f32⟩ : BufTy).Contents (Elt F) → (⟨S9216x8192, .f32⟩ : BufTy).Contents (Elt F) → (⟨S9216x8192, .f32⟩ : BufTy).Contents (Elt F))]

/-- The part that computes each token's nearest code. -/
def opsArg : List (HloOp τ sig (Elt F)) := [
  StableHlo.TRef.nullary main_call0.v0 (iotaInDim S9216x8192 32 1),
  StableHlo.TRef.nullary main_call0.cst (constant S_ .f32 0x7F800000#32),
  StableHlo.TRef.nullary main_call0.c (constantI S_ 32 0#32),
  StableHlo.TRef.quaternary (.of main_v13 : StableHlo.TRef sig ⟨S9216x8192, .f32⟩) main_call0.v0 main_call0.cst main_call0.c main_call0.v1_0 (fun x y u v j => (Host.argReduce reducer_argmin_f32_i32 x y u v reducesTo_S9216x8192_S9216_d1 h_S_ j).1),
  StableHlo.TRef.quaternary (.of main_v13 : StableHlo.TRef sig ⟨S9216x8192, .f32⟩) main_call0.v0 main_call0.cst main_call0.c main_call0.v1_1 (fun x y u v j => (Host.argReduce reducer_argmin_f32_i32 x y u v reducesTo_S9216x8192_S9216_d1 h_S_ j).2)]

/-- The part that computes each token's nearest code, one-hot. -/
def opsCode : List (HloOp τ sig (Elt F)) := [
  StableHlo.TRef.unary (.of main_v14 : StableHlo.TRef sig ⟨S9216, .i32⟩) main_call1.v0 (broadcastInDim S9216x1 ![0] bcast_S9216_S9216x1_0),
  StableHlo.TRef.nullary main_call1.v1 (iotaInDim S1x8192 32 1),
  StableHlo.TRef.unary main_call1.v0 main_call1.v2 (broadcastInDim S9216x8192 ![0, 1] bcast_S9216x1_S9216x8192_0_1),
  StableHlo.TRef.unary main_call1.v1 main_call1.v3 (broadcastInDim S9216x8192 ![0, 1] bcast_S1x8192_S9216x8192_0_1),
  StableHlo.TRef.binary main_call1.v2 main_call1.v3 main_call1.v4 (cmpi .eq),
  StableHlo.TRef.unary main_call1.v4 main_call1.v5 (uitofp .f32)]

/-- The part that computes the code vectors taken. -/
def opsQuant : List (HloOp τ sig (Elt F)) := [
  StableHlo.binary main_v15 main_arg1 main_v16 ((fun l r => Host.dotGeneral dot_S9216x8192_S8192x256_S9216x256_1_0_0_1_n_n none l r) : (⟨S9216x8192, .f32⟩ : BufTy).Contents (Elt F) → (⟨S8192x256, .f32⟩ : BufTy).Contents (Elt F) → (⟨S9216x256, .f32⟩ : BufTy).Contents (Elt F))]

/-- The part that computes the width of the step. -/
def opsScale : List (HloOp τ sig (Elt F)) := [
  StableHlo.unary main_arg2 main_v17 (sitofp .f32 : (⟨S_, .i32⟩ : BufTy).Contents (Elt F) → (⟨S_, .f32⟩ : BufTy).Contents (Elt F)),
  StableHlo.nullary main_cst_2 (constant S_ .f32 0x42C80000#32),
  StableHlo.binary main_v17 main_cst_2 main_v18 (Host.divf : (⟨S_, .f32⟩ : BufTy).Contents (Elt F) → (⟨S_, .f32⟩ : BufTy).Contents (Elt F) → (⟨S_, .f32⟩ : BufTy).Contents (Elt F)),
  StableHlo.nullary main_cst_3 (constant S_ .f32 0x3A83126F#32),
  StableHlo.binary main_cst_3 main_v18 main_v19 (Host.powf : (⟨S_, .f32⟩ : BufTy).Contents (Elt F) → (⟨S_, .f32⟩ : BufTy).Contents (Elt F) → (⟨S_, .f32⟩ : BufTy).Contents (Elt F)),
  StableHlo.nullary main_cst_4 (constant S_ .f32 0x41200000#32),
  StableHlo.binary main_cst_4 main_v19 main_v20 (mulf : (⟨S_, .f32⟩ : BufTy).Contents (Elt F) → (⟨S_, .f32⟩ : BufTy).Contents (Elt F) → (⟨S_, .f32⟩ : BufTy).Contents (Elt F))]

/-- The part that computes the codes by distance. -/
def opsSort : List (HloOp τ sig (Elt F)) := [
  StableHlo.TRef.nullary main_call2.v0 (iotaInDim S9216x8192 32 1),
  StableHlo.TRef.binary (.of main_v13 : StableHlo.TRef sig ⟨S9216x8192, .f32⟩) main_call2.v0 main_call2.v1_0 (fun x y => (Host.sort2 S9216x8192 1 comparator_f32_i32_d1 x y).1),
  StableHlo.TRef.binary (.of main_v13 : StableHlo.TRef sig ⟨S9216x8192, .f32⟩) main_call2.v0 main_call2.v1_1 (fun x y => (Host.sort2 S9216x8192 1 comparator_f32_i32_d1 x y).2)]

/-- The part that computes the weights by rank, flushed below the least normal number. -/
def opsWeight : List (HloOp τ sig (Elt F)) := [
  StableHlo.unary main_v21 main_v22 (sitofp .f32 : (⟨S9216x8192, .i32⟩ : BufTy).Contents (Elt F) → (⟨S9216x8192, .f32⟩ : BufTy).Contents (Elt F)),
  StableHlo.nullary main_cst_5 (constant S_ .f32 0xBF800000#32),
  StableHlo.unary main_cst_5 main_v23 (broadcastInDim S9216x8192 ![] bcast_S_S9216x8192 : (⟨S_, .f32⟩ : BufTy).Contents (Elt F) → (⟨S9216x8192, .f32⟩ : BufTy).Contents (Elt F)),
  StableHlo.binary main_v23 main_v22 main_v24 (mulf : (⟨S9216x8192, .f32⟩ : BufTy).Contents (Elt F) → (⟨S9216x8192, .f32⟩ : BufTy).Contents (Elt F) → (⟨S9216x8192, .f32⟩ : BufTy).Contents (Elt F)),
  StableHlo.unary main_v20 main_v25 (broadcastInDim S9216x8192 ![] bcast_S_S9216x8192 : (⟨S_, .f32⟩ : BufTy).Contents (Elt F) → (⟨S9216x8192, .f32⟩ : BufTy).Contents (Elt F)),
  StableHlo.binary main_v24 main_v25 main_v26 (Host.divf : (⟨S9216x8192, .f32⟩ : BufTy).Contents (Elt F) → (⟨S9216x8192, .f32⟩ : BufTy).Contents (Elt F) → (⟨S9216x8192, .f32⟩ : BufTy).Contents (Elt F)),
  StableHlo.unary main_v26 main_v27 (Host.exp : (⟨S9216x8192, .f32⟩ : BufTy).Contents (Elt F) → (⟨S9216x8192, .f32⟩ : BufTy).Contents (Elt F)),
  StableHlo.nullary main_cst_6 (constant S_ .f32 0x00800000#32),
  StableHlo.unary main_cst_6 main_v28 (broadcastInDim S9216x8192 ![] bcast_S_S9216x8192 : (⟨S_, .f32⟩ : BufTy).Contents (Elt F) → (⟨S9216x8192, .f32⟩ : BufTy).Contents (Elt F)),
  StableHlo.binary main_v27 main_v28 main_v29 (cmpf .olt : (⟨S9216x8192, .f32⟩ : BufTy).Contents (Elt F) → (⟨S9216x8192, .f32⟩ : BufTy).Contents (Elt F) → (⟨S9216x8192, .i1⟩ : BufTy).Contents (Elt F)),
  StableHlo.nullary main_cst_7 (constant S_ .f32 0x00000000#32),
  StableHlo.TRef.unary (.of main_cst_7 : StableHlo.TRef sig ⟨S_, .f32⟩) main_call3.v0 id,
  StableHlo.TRef.unary main_call3.v0 main_call3.v1 (broadcastInDim S9216x8192 ![] bcast_S_S9216x8192),
  StableHlo.TRef.ternary (.of main_v29 : StableHlo.TRef sig ⟨S9216x8192, .i1⟩) main_call3.v1 (.of main_v27 : StableHlo.TRef sig ⟨S9216x8192, .f32⟩) main_call3.v2 select]

/-- The part that computes the correction and the new codes. -/
def opsDelta : List (HloOp τ sig (Elt F)) := [
  StableHlo.unary main_v30 main_v31 ((transpose S8192x9216 [1, 0] · transposes_S9216x8192_S8192x9216_1_0) : (⟨S9216x8192, .f32⟩ : BufTy).Contents (Elt F) → (⟨S8192x9216, .f32⟩ : BufTy).Contents (Elt F)),
  StableHlo.binary main_v31 main_arg0 main_v32 ((fun l r => Host.dotGeneral dot_S8192x9216_S9216x256_S8192x256_1_0_0_1_n_n none l r) : (⟨S8192x9216, .f32⟩ : BufTy).Contents (Elt F) → (⟨S9216x256, .f32⟩ : BufTy).Contents (Elt F) → (⟨S8192x256, .f32⟩ : BufTy).Contents (Elt F)),
  StableHlo.nullary main_cst_8 (constant S_ .f32 0x00000000#32),
  StableHlo.binary main_v30 main_cst_8 main_v33 ((fun x v => Host.reduceAdd x v reducesTo_S9216x8192_S8192_d0 h_S_) : (⟨S9216x8192, .f32⟩ : BufTy).Contents (Elt F) → (⟨S_, .f32⟩ : BufTy).Contents (Elt F) → (⟨S8192, .f32⟩ : BufTy).Contents (Elt F)),
  StableHlo.unary main_v33 main_v34 (broadcastInDim S8192x1 ![0] bcast_S8192_S8192x1_0 : (⟨S8192, .f32⟩ : BufTy).Contents (Elt F) → (⟨S8192x1, .f32⟩ : BufTy).Contents (Elt F)),
  StableHlo.unary main_v34 main_v35 (broadcastInDim S8192x256 ![0, 1] bcast_S8192x1_S8192x256_0_1 : (⟨S8192x1, .f32⟩ : BufTy).Contents (Elt F) → (⟨S8192x256, .f32⟩ : BufTy).Contents (Elt F)),
  StableHlo.binary main_v35 main_arg1 main_v36 (mulf : (⟨S8192x256, .f32⟩ : BufTy).Contents (Elt F) → (⟨S8192x256, .f32⟩ : BufTy).Contents (Elt F) → (⟨S8192x256, .f32⟩ : BufTy).Contents (Elt F)),
  StableHlo.binary main_v32 main_v36 main_v37 (subf : (⟨S8192x256, .f32⟩ : BufTy).Contents (Elt F) → (⟨S8192x256, .f32⟩ : BufTy).Contents (Elt F) → (⟨S8192x256, .f32⟩ : BufTy).Contents (Elt F)),
  StableHlo.nullary main_cst_9 (constant S_ .f32 0x3A83126F#32),
  StableHlo.unary main_cst_9 main_v38 (broadcastInDim S8192x256 ![] bcast_S_S8192x256 : (⟨S_, .f32⟩ : BufTy).Contents (Elt F) → (⟨S8192x256, .f32⟩ : BufTy).Contents (Elt F)),
  StableHlo.binary main_v38 main_v37 main_v39 (mulf : (⟨S8192x256, .f32⟩ : BufTy).Contents (Elt F) → (⟨S8192x256, .f32⟩ : BufTy).Contents (Elt F) → (⟨S8192x256, .f32⟩ : BufTy).Contents (Elt F)),
  StableHlo.binary main_arg1 main_v39 main_v40 (addf : (⟨S8192x256, .f32⟩ : BufTy).Contents (Elt F) → (⟨S8192x256, .f32⟩ : BufTy).Contents (Elt F) → (⟨S8192x256, .f32⟩ : BufTy).Contents (Elt F))]

/-- The part that computes the loss. -/
def opsLoss : List (HloOp τ sig (Elt F)) := [
  StableHlo.binary main_v16 main_arg0 main_v41 (subf : (⟨S9216x256, .f32⟩ : BufTy).Contents (Elt F) → (⟨S9216x256, .f32⟩ : BufTy).Contents (Elt F) → (⟨S9216x256, .f32⟩ : BufTy).Contents (Elt F)),
  StableHlo.binary main_v41 main_v41 main_v42 (mulf : (⟨S9216x256, .f32⟩ : BufTy).Contents (Elt F) → (⟨S9216x256, .f32⟩ : BufTy).Contents (Elt F) → (⟨S9216x256, .f32⟩ : BufTy).Contents (Elt F)),
  StableHlo.nullary main_cst_10 (constant S_ .f32 0x00000000#32),
  StableHlo.binary main_v42 main_cst_10 main_v43 ((fun x v => Host.reduceAdd x v reducesTo_S9216x256_S_d0_1 h_S_) : (⟨S9216x256, .f32⟩ : BufTy).Contents (Elt F) → (⟨S_, .f32⟩ : BufTy).Contents (Elt F) → (⟨S_, .f32⟩ : BufTy).Contents (Elt F)),
  StableHlo.nullary main_cst_11 (constant S_ .f32 0x4A100000#32),
  StableHlo.binary main_v43 main_cst_11 main_v44 (Host.divf : (⟨S_, .f32⟩ : BufTy).Contents (Elt F) → (⟨S_, .f32⟩ : BufTy).Contents (Elt F) → (⟨S_, .f32⟩ : BufTy).Contents (Elt F)),
  StableHlo.nullary main_cst_12 (constant S_ .f32 0x3E800000#32),
  StableHlo.binary main_cst_12 main_v44 main_v45 (mulf : (⟨S_, .f32⟩ : BufTy).Contents (Elt F) → (⟨S_, .f32⟩ : BufTy).Contents (Elt F) → (⟨S_, .f32⟩ : BufTy).Contents (Elt F))]

/-- The part that computes the straight-through value. -/
def opsStraight : List (HloOp τ sig (Elt F)) := [
  StableHlo.binary main_v16 main_arg0 main_v46 (subf : (⟨S9216x256, .f32⟩ : BufTy).Contents (Elt F) → (⟨S9216x256, .f32⟩ : BufTy).Contents (Elt F) → (⟨S9216x256, .f32⟩ : BufTy).Contents (Elt F)),
  StableHlo.binary main_arg0 main_v46 main_v47 (addf : (⟨S9216x256, .f32⟩ : BufTy).Contents (Elt F) → (⟨S9216x256, .f32⟩ : BufTy).Contents (Elt F) → (⟨S9216x256, .f32⟩ : BufTy).Contents (Elt F))]

/-- The part that computes the perplexity. -/
def opsPerp : List (HloOp τ sig (Elt F)) := [
  StableHlo.nullary main_cst_13 (constant S_ .f32 0x00000000#32),
  StableHlo.binary main_v15 main_cst_13 main_v48 ((fun x v => Host.reduceAdd x v reducesTo_S9216x8192_S8192_d0 h_S_) : (⟨S9216x8192, .f32⟩ : BufTy).Contents (Elt F) → (⟨S_, .f32⟩ : BufTy).Contents (Elt F) → (⟨S8192, .f32⟩ : BufTy).Contents (Elt F)),
  StableHlo.nullary main_cst_14 (constant S_ .f32 0x46100000#32),
  StableHlo.unary main_cst_14 main_v49 (broadcastInDim S8192 ![] bcast_S_S8192 : (⟨S_, .f32⟩ : BufTy).Contents (Elt F) → (⟨S8192, .f32⟩ : BufTy).Contents (Elt F)),
  StableHlo.binary main_v48 main_v49 main_v50 (Host.divf : (⟨S8192, .f32⟩ : BufTy).Contents (Elt F) → (⟨S8192, .f32⟩ : BufTy).Contents (Elt F) → (⟨S8192, .f32⟩ : BufTy).Contents (Elt F)),
  StableHlo.nullary main_cst_15 (constant S_ .f32 0x2EDBE6FF#32),
  StableHlo.unary main_cst_15 main_v51 (broadcastInDim S8192 ![] bcast_S_S8192 : (⟨S_, .f32⟩ : BufTy).Contents (Elt F) → (⟨S8192, .f32⟩ : BufTy).Contents (Elt F)),
  StableHlo.binary main_v50 main_v51 main_v52 (addf : (⟨S8192, .f32⟩ : BufTy).Contents (Elt F) → (⟨S8192, .f32⟩ : BufTy).Contents (Elt F) → (⟨S8192, .f32⟩ : BufTy).Contents (Elt F)),
  StableHlo.unary main_v52 main_v53 (Host.log : (⟨S8192, .f32⟩ : BufTy).Contents (Elt F) → (⟨S8192, .f32⟩ : BufTy).Contents (Elt F)),
  StableHlo.binary main_v50 main_v53 main_v54 (mulf : (⟨S8192, .f32⟩ : BufTy).Contents (Elt F) → (⟨S8192, .f32⟩ : BufTy).Contents (Elt F) → (⟨S8192, .f32⟩ : BufTy).Contents (Elt F)),
  StableHlo.nullary main_cst_16 (constant S_ .f32 0x00000000#32),
  StableHlo.binary main_v54 main_cst_16 main_v55 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
  StableHlo.unary main_v55 main_v56 (Host.negf : (⟨S_, .f32⟩ : BufTy).Contents (Elt F) → (⟨S_, .f32⟩ : BufTy).Contents (Elt F)),
  StableHlo.unary main_v56 main_v57 (Host.exp : (⟨S_, .f32⟩ : BufTy).Contents (Elt F) → (⟨S_, .f32⟩ : BufTy).Contents (Elt F))]

/-- The whole line. -/
abbrev refOps : List (HloOp τ sig (Elt F)) :=
  opsDist ++ (opsArg ++ (opsCode ++ (opsQuant ++ (opsScale ++ (opsSort ++ (opsWeight ++ (opsDelta ++ (opsLoss ++ (opsStraight ++ (opsPerp))))))))))

set_option maxHeartbeats 4000000 in
/-- The program is that line. -/
theorem main_line (d : Dev nD) : StableHlo.IsSeq (main (F := F) d) refOps := by
  exact rfl

/-- The squared distances. -/
def rDist (x : (⟨S9216x256, .f32⟩ : BufTy).Contents (Elt F)) (w : (⟨S8192x256, .f32⟩ : BufTy).Contents (Elt F)) : (⟨S9216x8192, .f32⟩ : BufTy).Contents (Elt F) :=
  ((subf) ((addf) ((broadcastInDim S9216x8192 ![0, 1] bcast_S9216x1_S9216x8192_0_1) ((broadcastInDim S9216x1 ![0] bcast_S9216_S9216x1_0) (((fun x v => Host.reduceAdd x v reducesTo_S9216x256_S9216_d1 h_S_)) ((mulf) x x) (constant S_ .f32 0x00000000#32)))) ((broadcastInDim S9216x8192 ![0, 1] bcast_S1x8192_S9216x8192_0_1) ((broadcastInDim S1x8192 ![1] bcast_S8192_S1x8192_1) (((fun x v => Host.reduceAdd x v reducesTo_S8192x256_S8192_d1 h_S_)) ((mulf) w w) (constant S_ .f32 0x00000000#32))))) ((mulf) ((broadcastInDim S9216x8192 ![] bcast_S_S9216x8192) (constant S_ .f32 0x40000000#32)) (((fun l r => Host.dotGeneral dot_S9216x256_S256x8192_S9216x8192_1_0_0_1_n_n none l r)) x (transpose S256x8192 [1, 0] w transposes_S8192x256_S256x8192_1_0))))

/-- The stretch leaves `rDist` of what it reads. -/
theorem after_rDist (V : Valuation τ sig (Elt F)) :
    after opsDist V main_v13 = rDist (V main_arg0) (V main_arg1) := by
  unfold opsDist
  after_reads_simp
  rfl

/-- Each token's nearest code. -/
def rArg (d : (⟨S9216x8192, .f32⟩ : BufTy).Contents (Elt F)) : (⟨S9216, .i32⟩ : BufTy).Contents (Elt F) :=
  ((fun x y u v j => (Host.argReduce reducer_argmin_f32_i32 x y u v reducesTo_S9216x8192_S9216_d1 h_S_ j).2) d (iotaInDim S9216x8192 32 1) (constant S_ .f32 0x7F800000#32) (constantI S_ 32 0#32))

/-- The stretch leaves `rArg` of what it reads. -/
theorem after_rArg (V : Valuation τ sig (Elt F)) :
    after opsArg V main_v14 = rArg (V main_v13) := by
  unfold opsArg
  after_reads_simp
  rfl

/-- Each token's nearest code, one-hot. -/
def rCode (k : (⟨S9216, .i32⟩ : BufTy).Contents (Elt F)) : (⟨S9216x8192, .f32⟩ : BufTy).Contents (Elt F) :=
  ((uitofp .f32) ((cmpi .eq) ((broadcastInDim S9216x8192 ![0, 1] bcast_S9216x1_S9216x8192_0_1) ((broadcastInDim S9216x1 ![0] bcast_S9216_S9216x1_0) k)) ((broadcastInDim S9216x8192 ![0, 1] bcast_S1x8192_S9216x8192_0_1) (iotaInDim S1x8192 32 1))))

/-- The stretch leaves `rCode` of what it reads. -/
theorem after_rCode (V : Valuation τ sig (Elt F)) :
    after opsCode V main_v15 = rCode (V main_v14) := by
  unfold opsCode
  after_reads_simp
  rfl

/-- The code vectors taken. -/
def rQuant (e : (⟨S9216x8192, .f32⟩ : BufTy).Contents (Elt F)) (w : (⟨S8192x256, .f32⟩ : BufTy).Contents (Elt F)) : (⟨S9216x256, .f32⟩ : BufTy).Contents (Elt F) :=
  (((fun l r => Host.dotGeneral dot_S9216x8192_S8192x256_S9216x256_1_0_0_1_n_n none l r)) e w)

/-- The stretch leaves `rQuant` of what it reads. -/
theorem after_rQuant (V : Valuation τ sig (Elt F)) :
    after opsQuant V main_v16 = rQuant (V main_v15) (V main_arg1) := by
  unfold opsQuant
  after_reads_simp
  rfl

/-- The width of the step. -/
def rScale (n : (⟨S_, .i32⟩ : BufTy).Contents (Elt F)) : (⟨S_, .f32⟩ : BufTy).Contents (Elt F) :=
  ((mulf) (constant S_ .f32 0x41200000#32) ((Host.powf) (constant S_ .f32 0x3A83126F#32) ((Host.divf) ((sitofp .f32) n) (constant S_ .f32 0x42C80000#32))))

/-- The stretch leaves `rScale` of what it reads. -/
theorem after_rScale (V : Valuation τ sig (Elt F)) :
    after opsScale V main_v20 = rScale (V main_arg2) := by
  unfold opsScale
  after_reads_simp
  rfl

/-- The codes by distance. -/
def rSort (d : (⟨S9216x8192, .f32⟩ : BufTy).Contents (Elt F)) : (⟨S9216x8192, .i32⟩ : BufTy).Contents (Elt F) :=
  ((fun x y => (Host.sort2 S9216x8192 1 comparator_f32_i32_d1 x y).2) d (iotaInDim S9216x8192 32 1))

/-- The stretch leaves `rSort` of what it reads. -/
theorem after_rSort (V : Valuation τ sig (Elt F)) :
    after opsSort V main_v21 = rSort (V main_v13) := by
  unfold opsSort
  after_reads_simp
  rfl

/-- The weights by rank, flushed below the least normal number. -/
def rWeight (o : (⟨S9216x8192, .i32⟩ : BufTy).Contents (Elt F)) (y : (⟨S_, .f32⟩ : BufTy).Contents (Elt F)) : (⟨S9216x8192, .f32⟩ : BufTy).Contents (Elt F) :=
  (select ((cmpf .olt) ((Host.exp) ((Host.divf) ((mulf) ((broadcastInDim S9216x8192 ![] bcast_S_S9216x8192) (constant S_ .f32 0xBF800000#32)) ((sitofp .f32) o)) ((broadcastInDim S9216x8192 ![] bcast_S_S9216x8192) y))) ((broadcastInDim S9216x8192 ![] bcast_S_S9216x8192) (constant S_ .f32 0x00800000#32))) ((broadcastInDim S9216x8192 ![] bcast_S_S9216x8192) (id (constant S_ .f32 0x00000000#32))) ((Host.exp) ((Host.divf) ((mulf) ((broadcastInDim S9216x8192 ![] bcast_S_S9216x8192) (constant S_ .f32 0xBF800000#32)) ((sitofp .f32) o)) ((broadcastInDim S9216x8192 ![] bcast_S_S9216x8192) y))))

/-- The stretch leaves `rWeight` of what it reads. -/
theorem after_rWeight (V : Valuation τ sig (Elt F)) :
    after opsWeight V main_v30 = rWeight (V main_v21) (V main_v20) := by
  unfold opsWeight
  after_reads_simp
  rfl

/-- The correction. -/
def rDelta (p : (⟨S9216x8192, .f32⟩ : BufTy).Contents (Elt F)) (x : (⟨S9216x256, .f32⟩ : BufTy).Contents (Elt F)) (w : (⟨S8192x256, .f32⟩ : BufTy).Contents (Elt F)) : (⟨S8192x256, .f32⟩ : BufTy).Contents (Elt F) :=
  ((mulf) ((broadcastInDim S8192x256 ![] bcast_S_S8192x256) (constant S_ .f32 0x3A83126F#32)) ((subf) (((fun l r => Host.dotGeneral dot_S8192x9216_S9216x256_S8192x256_1_0_0_1_n_n none l r)) (transpose S8192x9216 [1, 0] p transposes_S9216x8192_S8192x9216_1_0) x) ((mulf) ((broadcastInDim S8192x256 ![0, 1] bcast_S8192x1_S8192x256_0_1) ((broadcastInDim S8192x1 ![0] bcast_S8192_S8192x1_0) (((fun x v => Host.reduceAdd x v reducesTo_S9216x8192_S8192_d0 h_S_)) p (constant S_ .f32 0x00000000#32)))) w)))

/-- The stretch leaves `rDelta` of what it reads. -/
theorem after_rDelta (V : Valuation τ sig (Elt F)) :
    after opsDelta V main_v39 = rDelta (V main_v30) (V main_arg0) (V main_arg1) := by
  unfold opsDelta
  after_reads_simp
  rfl

/-- The new codes. -/
def rNew (p : (⟨S9216x8192, .f32⟩ : BufTy).Contents (Elt F)) (x : (⟨S9216x256, .f32⟩ : BufTy).Contents (Elt F)) (w : (⟨S8192x256, .f32⟩ : BufTy).Contents (Elt F)) : (⟨S8192x256, .f32⟩ : BufTy).Contents (Elt F) :=
  ((addf) w ((mulf) ((broadcastInDim S8192x256 ![] bcast_S_S8192x256) (constant S_ .f32 0x3A83126F#32)) ((subf) (((fun l r => Host.dotGeneral dot_S8192x9216_S9216x256_S8192x256_1_0_0_1_n_n none l r)) (transpose S8192x9216 [1, 0] p transposes_S9216x8192_S8192x9216_1_0) x) ((mulf) ((broadcastInDim S8192x256 ![0, 1] bcast_S8192x1_S8192x256_0_1) ((broadcastInDim S8192x1 ![0] bcast_S8192_S8192x1_0) (((fun x v => Host.reduceAdd x v reducesTo_S9216x8192_S8192_d0 h_S_)) p (constant S_ .f32 0x00000000#32)))) w))))

/-- The stretch leaves `rNew` of what it reads. -/
theorem after_rNew (V : Valuation τ sig (Elt F)) :
    after opsDelta V main_v40 = rNew (V main_v30) (V main_arg0) (V main_arg1) := by
  unfold opsDelta
  after_reads_simp
  rfl

/-- The loss. -/
def rLoss (q : (⟨S9216x256, .f32⟩ : BufTy).Contents (Elt F)) (x : (⟨S9216x256, .f32⟩ : BufTy).Contents (Elt F)) : (⟨S_, .f32⟩ : BufTy).Contents (Elt F) :=
  ((mulf) (constant S_ .f32 0x3E800000#32) ((Host.divf) (((fun x v => Host.reduceAdd x v reducesTo_S9216x256_S_d0_1 h_S_)) ((mulf) ((subf) q x) ((subf) q x)) (constant S_ .f32 0x00000000#32)) (constant S_ .f32 0x4A100000#32)))

/-- The stretch leaves `rLoss` of what it reads. -/
theorem after_rLoss (V : Valuation τ sig (Elt F)) :
    after opsLoss V main_v45 = rLoss (V main_v16) (V main_arg0) := by
  unfold opsLoss
  after_reads_simp
  rfl

/-- The straight-through value. -/
def rStraight (q : (⟨S9216x256, .f32⟩ : BufTy).Contents (Elt F)) (x : (⟨S9216x256, .f32⟩ : BufTy).Contents (Elt F)) : (⟨S9216x256, .f32⟩ : BufTy).Contents (Elt F) :=
  ((addf) x ((subf) q x))

/-- The stretch leaves `rStraight` of what it reads. -/
theorem after_rStraight (V : Valuation τ sig (Elt F)) :
    after opsStraight V main_v47 = rStraight (V main_v16) (V main_arg0) := by
  unfold opsStraight
  after_reads_simp
  rfl

/-- The perplexity. -/
def rPerp (e : (⟨S9216x8192, .f32⟩ : BufTy).Contents (Elt F)) : (⟨S_, .f32⟩ : BufTy).Contents (Elt F) :=
  ((Host.exp) ((Host.negf) (((fun x v => Host.reduceAdd x v reducesTo_S8192_S_d0 h_S_)) ((mulf) ((Host.divf) (((fun x v => Host.reduceAdd x v reducesTo_S9216x8192_S8192_d0 h_S_)) e (constant S_ .f32 0x00000000#32)) ((broadcastInDim S8192 ![] bcast_S_S8192) (constant S_ .f32 0x46100000#32))) ((Host.log) ((addf) ((Host.divf) (((fun x v => Host.reduceAdd x v reducesTo_S9216x8192_S8192_d0 h_S_)) e (constant S_ .f32 0x00000000#32)) ((broadcastInDim S8192 ![] bcast_S_S8192) (constant S_ .f32 0x46100000#32))) ((broadcastInDim S8192 ![] bcast_S_S8192) (constant S_ .f32 0x2EDBE6FF#32))))) (constant S_ .f32 0x00000000#32))))

/-- The stretch leaves `rPerp` of what it reads. -/
theorem after_rPerp (V : Valuation τ sig (Elt F)) :
    after opsPerp V main_v57 = rPerp (V main_v15) := by
  unfold opsPerp
  after_reads_simp
  rfl

/-- The stretch leaves every buffer that it does not write. -/
theorem keepDist (V : Valuation τ sig (Elt F)) (r : Ref sig .tc) (hr : r ∉ ([main_v0, main_cst, main_v1, main_v2, main_v3, main_cst_0, main_v4, main_v5, main_v6, main_v7, main_v8, main_v9, main_v10, main_cst_1, main_v11, main_v12, main_v13] : List (Ref sig .tc))) :
    after opsDist V r = V r :=
  StableHlo.after_unwritten _ rfl hr V

/-- The stretch leaves every buffer that it does not write. -/
theorem keepArg (V : Valuation τ sig (Elt F)) (r : Ref sig .tc) (hr : r ∉ ([main_call0_v0, main_call0_cst, main_call0_c, main_call0_v1_0, main_v14] : List (Ref sig .tc))) :
    after opsArg V r = V r :=
  StableHlo.after_unwritten _ rfl hr V

/-- The stretch leaves every buffer that it does not write. -/
theorem keepCode (V : Valuation τ sig (Elt F)) (r : Ref sig .tc) (hr : r ∉ ([main_call1_v0, main_call1_v1, main_call1_v2, main_call1_v3, main_call1_v4, main_v15] : List (Ref sig .tc))) :
    after opsCode V r = V r :=
  StableHlo.after_unwritten _ rfl hr V

/-- The stretch leaves every buffer that it does not write. -/
theorem keepQuant (V : Valuation τ sig (Elt F)) (r : Ref sig .tc) (hr : r ∉ ([main_v16] : List (Ref sig .tc))) :
    after opsQuant V r = V r :=
  StableHlo.after_unwritten _ rfl hr V

/-- The stretch leaves every buffer that it does not write. -/
theorem keepScale (V : Valuation τ sig (Elt F)) (r : Ref sig .tc) (hr : r ∉ ([main_v17, main_cst_2, main_v18, main_cst_3, main_v19, main_cst_4, main_v20] : List (Ref sig .tc))) :
    after opsScale V r = V r :=
  StableHlo.after_unwritten _ rfl hr V

/-- The stretch leaves every buffer that it does not write. -/
theorem keepSort (V : Valuation τ sig (Elt F)) (r : Ref sig .tc) (hr : r ∉ ([main_call2_v0, main_call2_v1_0, main_v21] : List (Ref sig .tc))) :
    after opsSort V r = V r :=
  StableHlo.after_unwritten _ rfl hr V

/-- The stretch leaves every buffer that it does not write. -/
theorem keepWeight (V : Valuation τ sig (Elt F)) (r : Ref sig .tc) (hr : r ∉ ([main_v22, main_cst_5, main_v23, main_v24, main_v25, main_v26, main_v27, main_cst_6, main_v28, main_v29, main_cst_7, main_call3_v0, main_call3_v1, main_v30] : List (Ref sig .tc))) :
    after opsWeight V r = V r :=
  StableHlo.after_unwritten _ rfl hr V

/-- The stretch leaves every buffer that it does not write. -/
theorem keepDelta (V : Valuation τ sig (Elt F)) (r : Ref sig .tc) (hr : r ∉ ([main_v31, main_v32, main_cst_8, main_v33, main_v34, main_v35, main_v36, main_v37, main_cst_9, main_v38, main_v39, main_v40] : List (Ref sig .tc))) :
    after opsDelta V r = V r :=
  StableHlo.after_unwritten _ rfl hr V

/-- The stretch leaves every buffer that it does not write. -/
theorem keepLoss (V : Valuation τ sig (Elt F)) (r : Ref sig .tc) (hr : r ∉ ([main_v41, main_v42, main_cst_10, main_v43, main_cst_11, main_v44, main_cst_12, main_v45] : List (Ref sig .tc))) :
    after opsLoss V r = V r :=
  StableHlo.after_unwritten _ rfl hr V

/-- The stretch leaves every buffer that it does not write. -/
theorem keepStraight (V : Valuation τ sig (Elt F)) (r : Ref sig .tc) (hr : r ∉ ([main_v46, main_v47] : List (Ref sig .tc))) :
    after opsStraight V r = V r :=
  StableHlo.after_unwritten _ rfl hr V

/-- The stretch leaves every buffer that it does not write. -/
theorem keepPerp (V : Valuation τ sig (Elt F)) (r : Ref sig .tc) (hr : r ∉ ([main_cst_13, main_v48, main_cst_14, main_v49, main_v50, main_cst_15, main_v51, main_v52, main_v53, main_v54, main_cst_16, main_v55, main_v56, main_v57] : List (Ref sig .tc))) :
    after opsPerp V r = V r :=
  StableHlo.after_unwritten _ rfl hr V

end Cert.ReferenceIdeal.Own

end
-- ==== Proof.Spec.lean ====
module

public import proofs.«01_k».proof.Proof.RefVal
public import Idealize.ShloMosaic.Lib.SortFacts
public import Idealize.ShloMosaic.Lib.Pointwise

@[expose] public section

/-!
# One row of distances

What the kernel and the reference compute of one token's 8192 distances `d`: the nearest code (the first index where `d` is least),
and the rank of code 0 (how many distances lie below `d 0`). Each of the two programs' ways of computing them is shown to give these.
-/

set_option maxRecDepth 16384

noncomputable section

namespace Cert.Row

open Idealize.ShloMosaic

/-- `k` is the first index at which `d` is least. -/
def IsNearest (d : Fin 8192 → EReal) (k : Fin 8192) : Prop := (∀ j, d k ≤ d j) ∧ ∀ j, d j = d k → k ≤ j

/-- Every row has a nearest code. -/
theorem exists_nearest (d : Fin 8192 → EReal) : ∃ k, IsNearest d k := by
  obtain ⟨m, -, hm⟩ := Finset.exists_min_image Finset.univ d ⟨0, Finset.mem_univ _⟩
  obtain ⟨k, hk, hk'⟩ := Finset.exists_min_image (Finset.univ.filter fun j => d j = d m) id ⟨m, by simp⟩
  simp only [Finset.mem_filter, Finset.mem_univ, true_and] at hk hk'
  exact ⟨k, fun j => hk ▸ hm j (Finset.mem_univ j), fun j hj => hk' j (hj.trans hk)⟩

/-- The nearest code of a row. -/
def nearest (d : Fin 8192 → EReal) : Fin 8192 := (exists_nearest d).choose

/-- The nearest code is one. -/
theorem isNearest_nearest (d : Fin 8192 → EReal) : IsNearest d (nearest d) := (exists_nearest d).choose_spec

/-- How many distances of a row lie below that of code 0. -/
def below (d : Fin 8192 → EReal) : ℕ := (Finset.univ.filter fun j => d j < d 0).card

/-- Code 0 is not below itself. -/
theorem below_lt (d : Fin 8192 → EReal) : below d < 8192 := by
  have h : (Finset.univ.filter fun j => d j < d 0) ⊂ Finset.univ :=
    Finset.filter_ssubset.mpr ⟨0, Finset.mem_univ _, lt_irrefl _⟩
  simpa [below] using Finset.card_lt_card h

/-- The rank of code 0, as an index. -/
def rank (d : Fin 8192 → EReal) : Fin 8192 := ⟨below d, below_lt d⟩

/-- An index below `8192` is read back from its 32-bit word. -/
theorem toInt_index (n : ℕ) (h : n ≤ 8192) : (BitVec.ofNat 32 n).toInt = n := by
  rw [BitVec.toInt_eq_toNat_of_lt] <;> rw [BitVec.toNat_ofNat] <;> omega

/-- Two indices have the same 32-bit word only if they are the same. -/
theorem ofNat_inj (i j : Fin 8192) : BitVec.ofNat 32 i = BitVec.ofNat 32 j ↔ i = j := by
  refine ⟨fun h => ?_, fun h => h ▸ rfl⟩
  have := congrArg BitVec.toInt h
  rw [toInt_index _ i.isLt.le, toInt_index _ j.isLt.le] at this
  exact Fin.ext (by exact_mod_cast this)

/-- The one-hot bit as a number. -/
def hot (i j : Fin 8192) : EReal := if i = j then 1 else 0

/-- The unsigned reading of a compare of indices. -/
theorem uitofp_hot (i j : Fin 8192) :
    (FloatOps.uitofp .f32 (IntOp.cmpi .eq (BitVec.ofNat 32 i) (BitVec.ofNat 32 j)) : Ideal .f32) = hot i j := by
  rw [show IntOp.cmpi .eq (BitVec.ofNat 32 i) (BitVec.ofNat 32 j) = BitVec.ofBool (decide (i = j)) from
    congrArg BitVec.ofBool (by rw [Bool.eq_iff_iff, beq_iff_eq, decide_eq_true_eq]; exact ofNat_inj i j)]
  unfold hot
  by_cases h : i = j <;> simp only [h, decide_true, decide_false, if_true, if_false]
  · show (((BitVec.ofBool true).toNat : ℝ) : EReal) = 1; simp
  · show (((BitVec.ofBool false).toNat : ℝ) : EReal) = 0; simp

/-- The signed reading of a compare of indices widened to 32 bits. -/
theorem sitofp_hot (i j : Fin 8192) :
    (FloatOps.sitofp .f32 (BitVec.setWidth 32 (IntOp.cmpi .eq (BitVec.ofNat 32 j) (BitVec.ofNat 32 i))) : Ideal .f32) = hot i j := by
  rw [show IntOp.cmpi .eq (BitVec.ofNat 32 j) (BitVec.ofNat 32 i) = BitVec.ofBool (decide (i = j)) from
    congrArg BitVec.ofBool (by rw [Bool.eq_iff_iff, beq_iff_eq, decide_eq_true_eq, eq_comm]; exact ofNat_inj i j)]
  unfold hot
  by_cases h : i = j <;> simp only [h, decide_true, decide_false, if_true, if_false]
  · show ((((BitVec.setWidth 32 (BitVec.ofBool true)).toInt : ℤ) : ℝ) : EReal) = 1; simp
  · show ((((BitVec.setWidth 32 (BitVec.ofBool false)).toInt : ℤ) : ℝ) : EReal) = 0; simp

/-! ## The kernel's nearest code and rank -/

/-- Folding the minimum of a row gives the distance of the nearest code. -/
theorem fold_min (d : Fin 8192 → EReal) : Finset.fold min ⊤ d Finset.univ = d (nearest d) :=
  le_antisymm ((Finset.fold_min_le _).mpr (Or.inr ⟨nearest d, Finset.mem_univ _, le_rfl⟩))
    ((Finset.le_fold_min _).mpr ⟨le_top, fun j _ => (isNearest_nearest d).1 j⟩)

/-- The signed reading of the smaller of two words. -/
theorem toInt_minsi (a b : BitVec 32) : (IntOp.minsi a b).toInt = min a.toInt b.toInt := by
  unfold IntOp.minsi
  by_cases h : a.slt b = true
  · rw [if_pos h]; rw [BitVec.slt_iff_toInt_lt] at h; exact (min_eq_left h.le).symm
  · rw [if_neg h]; rw [BitVec.slt_iff_toInt_lt] at h; exact (min_eq_right (not_lt.mp h)).symm

/-- The signed reading of the least of many words. -/
theorem toInt_fold_minsi (b : BitVec 32) (g : Fin 8192 → BitVec 32) (s : Finset (Fin 8192)) :
    (Finset.fold IntOp.minsi b g s).toInt = Finset.fold min b.toInt (fun j => (g j).toInt) s := by
  induction s using Finset.induction_on with
  | empty => rfl
  | insert a s ha ih => rw [Finset.fold_insert ha, Finset.fold_insert ha, toInt_minsi, ih]

/-- The least index among those at the least distance. -/
theorem fold_minsi (d : Fin 8192 → EReal) :
    Finset.fold IntOp.minsi 2147483647#32 (fun j => if d j = d (nearest d) then BitVec.ofNat 32 (j : ℕ) else 8192#32) Finset.univ
      = BitVec.ofNat 32 (nearest d : ℕ) := by
  apply BitVec.eq_of_toInt_eq
  rw [toInt_fold_minsi, toInt_index _ (nearest d).isLt.le]
  refine le_antisymm ((Finset.fold_min_le _).mpr (Or.inr ⟨nearest d, Finset.mem_univ _, ?_⟩)) ((Finset.le_fold_min _).mpr ⟨?_, fun j _ => ?_⟩)
  · rw [if_pos rfl, toInt_index _ (nearest d).isLt.le]
  · have := (nearest d).isLt
    rw [show (2147483647#32).toInt = 2147483647 from by decide]; omega
  · by_cases h : d j = d (nearest d)
    · rw [if_pos h, toInt_index _ j.isLt.le]
      exact_mod_cast (isNearest_nearest d).2 j h
    · rw [if_neg h]
      have := (nearest d).isLt
      rw [show (8192#32).toInt = 8192 from by decide]; omega

/-- Adding up the bits "below code 0" counts them. -/
theorem fold_addi (d : Fin 8192 → EReal) :
    Finset.fold IntOp.addi 0#32 (fun j => BitVec.setWidth 32 (BitVec.ofBool (decide (d j < d 0)))) Finset.univ
      = BitVec.ofNat 32 (rank d : ℕ) := by
  suffices h : ∀ s : Finset (Fin 8192),
      Finset.fold IntOp.addi 0#32 (fun j => BitVec.setWidth 32 (BitVec.ofBool (decide (d j < d 0)))) s
        = BitVec.ofNat 32 (s.filter fun j => d j < d 0).card from h Finset.univ
  intro s
  induction s using Finset.induction_on with
  | empty => rfl
  | insert a s ha ih =>
    rw [Finset.fold_insert ha, ih, Finset.filter_insert]
    by_cases h : d a < d 0
    · rw [if_pos h, Finset.card_insert_of_notMem (by simp [ha])]
      simp only [h, decide_true]
      show BitVec.setWidth 32 (BitVec.ofBool true) + _ = _
      rw [BitVec.ofNat_add, BitVec.add_comm]; rfl
    · rw [if_neg h]
      simp only [h, decide_false]
      show BitVec.setWidth 32 (BitVec.ofBool false) + _ = _
      rw [show BitVec.setWidth 32 (BitVec.ofBool false) = 0#32 from by decide, BitVec.zero_add]

/-! ## The reference's nearest code and rank -/

/-- A fold that keeps the smaller of two (for a total transitive `r`) keeps one of those met, below all of them. -/
theorem foldl_least {α : Type} (r : α → α → Prop) (ht : ∀ a b c, r a b → r b c → r a c) (hr : ∀ a, r a a) (f : α → α → α)
    (hf : ∀ a b, (f a b = a ∧ r a b) ∨ (f a b = b ∧ r b a)) (l : List α) (a : α) :
    (l.foldl f a = a ∨ l.foldl f a ∈ l) ∧ r (l.foldl f a) a ∧ ∀ b ∈ l, r (l.foldl f a) b := by
  induction l generalizing a with
  | nil => exact ⟨Or.inl rfl, hr a, by simp⟩
  | cons b l ih =>
    obtain ⟨h1, h2, h3⟩ := ih (f a b)
    simp only [List.foldl_cons, List.mem_cons]
    rcases hf a b with ⟨e, hab⟩ | ⟨e, hba⟩ <;> rw [e] at h1 h2 h3 ⊢
    · exact ⟨h1.imp id Or.inr, h2, fun c hc => hc.elim (fun e => e ▸ ht _ _ _ h2 hab) (h3 c)⟩
    · exact ⟨Or.inr (h1.imp id id), ht _ _ _ h2 hba, fun c hc => hc.elim (fun e => e ▸ h2) (h3 c)⟩

/-- A pair of a distance and an index comes no later than another. -/
def lex (p q : EReal × BitVec 32) : Prop := p.1 < q.1 ∨ (p.1 = q.1 ∧ p.2.toInt ≤ q.2.toInt)

/-- The order of pairs is transitive. -/
theorem lex_trans (p q r : EReal × BitVec 32) (h : lex p q) (h' : lex q r) : lex p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The reference's step keeps the earlier of two pairs. -/
theorem argmin_step (p q : EReal × BitVec 32) :
    (Cert.ReferenceIdeal.reducer_argmin_f32_i32 (F := Ideal) p q = p ∧ lex p q)
      ∨ (Cert.ReferenceIdeal.reducer_argmin_f32_i32 (F := Ideal) p q = q ∧ lex q p) := by
  obtain ⟨a, i⟩ := p; obtain ⟨b, j⟩ := q
  have hs : Cert.ReferenceIdeal.reducer_argmin_f32_i32 (F := Ideal) (a, i) (b, j)
      = (if a < b then a else b, if a < b ∨ (a = b ∧ i.slt j = true) then i else j) := by
    simp only [Cert.ReferenceIdeal.reducer_argmin_f32_i32, Ideal.cmpf_def, Ideal.cmp, IntOp.ori, IntOp.andi, IntOp.cmpi, Scalar.select]
    by_cases h : a < b <;> by_cases h' : a = b <;> by_cases hij : i.slt j = true <;> simp [h, h', hij]
  rw [hs]
  unfold lex
  simp only [BitVec.slt_iff_toInt_lt]
  rcases lt_trichotomy a b with h | h | h
  · left; simp [h]
  · subst h
    by_cases hij : i.toInt < j.toInt
    · left; simp [hij, hij.le]
    · right; simp [hij, not_lt.mp hij]
  · right; simp [h, h.not_gt, h.ne']

/-- Folding that step over pairs "distance, index" that are all the row's, from `(⊤, 0)`, ends at the nearest code. -/
theorem foldl_argmin (d : Fin 8192 → EReal) (l : List (EReal × BitVec 32)) (hl : ∀ p, p ∈ l ↔ ∃ j, p = (d j, BitVec.ofNat 32 (j : ℕ))) :
    (l.foldl (Cert.ReferenceIdeal.reducer_argmin_f32_i32 (F := Ideal)) ((⊤ : EReal), 0#32)).2 = BitVec.ofNat 32 (nearest d : ℕ) := by
  obtain ⟨h1, h2, h3⟩ := foldl_least lex lex_trans (fun a => Or.inr ⟨rfl, le_rfl⟩) _ argmin_step l ((⊤ : EReal), 0#32)
  have hn := isNearest_nearest d
  have hk := h3 _ ((hl _).mpr ⟨nearest d, rfl⟩)
  have hi := toInt_index _ (nearest d).isLt.le
  generalize List.foldl (Cert.ReferenceIdeal.reducer_argmin_f32_i32 (F := Ideal)) ((⊤ : EReal), 0#32) l = r at h1 h2 h3 hk ⊢
  apply BitVec.eq_of_toInt_eq
  rw [hi]
  have key : ∃ j : Fin 8192, r.2 = BitVec.ofNat 32 (j : ℕ) ∧ r.1 = d j := by
    rcases h1 with rfl | h1
    · have h0 := h3 _ ((hl _).mpr ⟨0, rfl⟩)
      refine ⟨0, rfl, ?_⟩
      rcases h0 with h0 | ⟨h0, -⟩
      · exact absurd h0 not_top_lt
      · exact h0
    · obtain ⟨j, rfl⟩ := (hl _).mp h1
      exact ⟨j, rfl, rfl⟩
  obtain ⟨j, e2, e1⟩ := key
  rw [e2, toInt_index _ j.isLt.le]
  have hj := hn.1 j
  rcases hk with hk | ⟨hk, hk'⟩
  · exact absurd (e1 ▸ hk : d j < d (nearest d)) hj.not_gt
  · have := hn.2 j (e1 ▸ hk)
    rw [e2, toInt_index _ j.isLt.le] at hk'
    simp only [hi] at hk'
    have : (nearest d : ℕ) ≤ (j : ℕ) := this
    omega

/-- Inserting `z` into a list sorted by `d` puts it after just those strictly below it. -/
theorem getElem?_insertBefore {ι : Type} (d : ι → EReal) (R : ι → ι → Bool) (hR : ∀ a b, R a b = true ↔ d a < d b) (z : ι) (l : List ι)
    (hl : l.Pairwise fun b c => R c b = false) : (insertBefore R z l)[l.countP fun b => R b z]? = some z := by
  induction l with
  | nil => rfl
  | cons b l ih =>
    obtain ⟨hb, hl⟩ := List.pairwise_cons.mp hl
    unfold insertBefore
    cases h : R b z with
    | true => simpa [h] using ih hl
    | false =>
      have h0 : l.countP (fun b => R b z) = 0 := by
        rw [List.countP_eq_zero]
        intro c hc hcz
        have h1 : ¬ d b < d z := fun e => by rw [(hR b z).mpr e] at h; exact absurd h (by decide)
        have h2 : ¬ d c < d b := fun e => by have := hb c hc; rw [(hR c b).mpr e] at this; exact absurd this (by decide)
        exact h1 (lt_of_le_of_lt (not_lt.mp h2) ((hR c z).mp hcz))
      simp [h, h0]

/-- The stable sort of a row puts code 0 at its rank, and at no other place. -/
theorem sortedFrom_eq_zero (d : Fin 8192 → EReal) (R : Fin 8192 → Fin 8192 → Bool) (hR : ∀ a b, R a b = true ↔ d a < d b) (j : Fin 8192) :
    sortedFrom R j = 0 ↔ rank d = j := by
  have hrank : sortedFrom R (rank d) = 0 := by
    have hp : ((stableSort R ((List.finRange 8191).map Fin.succ))).Pairwise fun b c => R c b = false := by
      refine pairwise_stableSort R R (fun a b h => ?_) (fun _ _ h => h) (fun a b c h h' => ?_) _
      · rw [Bool.eq_false_iff, ne_eq, hR]; exact ((hR a b).mp h).not_gt
      · rw [Bool.eq_false_iff, ne_eq, hR, not_lt] at h h' ⊢; exact h'.trans h
    have hg := getElem?_insertBefore d R hR 0 _ hp
    have hc : (stableSort R ((List.finRange 8191).map Fin.succ)).countP (fun b => R b 0) = below d := by
      rw [(perm_stableSort R _).countP_eq]
      have h1 : (List.finRange 8192).countP (fun b => R b 0) = ((List.finRange 8191).map Fin.succ).countP (fun b => R b 0) := by
        rw [List.finRange_succ, List.countP_cons_of_neg]
        rw [hR]; exact lt_irrefl _
      rw [← h1, below, List.countP_eq_length_filter]
      rw [show (Finset.univ.filter fun j => d j < d 0) = ((List.finRange 8192).filter fun j => R j 0).toFinset from by
        ext x; simp [hR]]
      rw [List.toFinset_card_of_nodup ((List.nodup_finRange _).filter _)]
    rw [hc] at hg
    have hs : sortPositions 8192 R = insertBefore R 0 (stableSort R ((List.finRange 8191).map Fin.succ)) := by
      unfold sortPositions
      rw [List.finRange_succ]; rfl
    unfold sortedFrom
    rw [← hs] at hg
    rw [List.get_eq_getElem]
    exact (List.getElem?_eq_some_iff.mp hg).choose_spec
  exact ⟨fun h => sortedFrom_injective R (hrank.trans h.symm), fun h => h ▸ hrank⟩

/-- The reference's comparator says when one distance is below another. -/
theorem comparator_iff (p q : EReal × BitVec 32) :
    (Cert.ReferenceIdeal.comparator_f32_i32_d1 (F := Ideal) p q == 1#1) = true ↔ p.1 < q.1 := by
  obtain ⟨a, i⟩ := p; obtain ⟨b, j⟩ := q
  have hz : (FloatOps.ofBits .f32 0x00000000#32 : Ideal .f32) = (0 : EReal) := Ideal.ofBits_zero_f32
  have hs : ∀ x : Ideal .f32, Scalar.select (FloatOps.cmpf .une x x) (FloatOps.ofBits .f32 0x7FC00000#32 : Ideal .f32)
      (Scalar.select (FloatOps.cmpf .oeq x (FloatOps.ofBits .f32 0x00000000#32 : Ideal .f32)) (FloatOps.ofBits .f32 0x00000000#32 : Ideal .f32) x) = x := by
    intro x
    simp only [Ideal.cmpf_def, Ideal.cmp, Scalar.select]
    rw [hz]
    by_cases h : x = (0 : EReal) <;> simp [h]
  have he : Cert.ReferenceIdeal.comparator_f32_i32_d1 (F := Ideal) (a, i) (b, j) = Ideal.cmp .olt a b :=
    congrArg₂ (fun x y : Ideal .f32 => Ideal.cmp .olt x y) (hs a) (hs b)
  rw [he]
  by_cases h : a < b <;> simp [Ideal.cmp, h]

/-! ## The reference's weight of a rank -/

/-- The ideal quotient of two reals. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- From time 99 on the step's width (ten times a power of the float nearest `1/1000`) is at most `57/5000`. -/
theorem width_le (n : BitVec 32) (hn : 99 ≤ n.toInt) : ∃ y : ℝ, 0 < y ∧ y ≤ 57 / 5000 ∧
    (Ideal.ofBits .f32 1092616192#32 * Ideal.pow (Ideal.ofBits .f32 981668463#32)
      (Ideal.div (FloatOps.sitofp .f32 n : Ideal .f32) (Ideal.ofBits .f32 1120403456#32)) : EReal) = (y : EReal) := by
  have h10 : (Ideal.ofBits .f32 1092616192#32 : EReal) = ((10 : ℝ) : EReal) := by
    simp [Ideal.ofBits, Ideal.ieee, -EReal.coe_mul]; norm_num [-EReal.coe_mul]
  have hc : (Ideal.ofBits .f32 981668463#32 : EReal) = ((8589935 * 2 ^ (-33 : ℤ) : ℝ) : EReal) := by
    simp [Ideal.ofBits, Ideal.ieee]
  have h100 : (Ideal.ofBits .f32 1120403456#32 : EReal) = ((100 : ℝ) : EReal) := by
    simp [Ideal.ofBits, Ideal.ieee, -EReal.coe_mul]; norm_num [-EReal.coe_mul]
  have hs : (FloatOps.sitofp .f32 n : Ideal .f32) = ((n.toInt : ℝ) : EReal) := rfl
  have hn' : (99 : ℝ) ≤ (n.toInt : ℝ) := by exact_mod_cast hn
  rw [h10, hc, h100, hs, div_coe _ _ (by norm_num)]
  generalize hb : (8589935 * 2 ^ (-33 : ℤ) : ℝ) = b
  have hb0 : 0 < b := by rw [← hb]; positivity
  have hb1 : b ≤ 1 := by rw [← hb]; norm_num
  refine ⟨10 * b ^ ((n.toInt : ℝ) / 100), mul_pos (by norm_num) (Real.rpow_pos_of_pos hb0 _), ?_, (EReal.coe_mul _ _).symm⟩
  have h1 : b ^ ((n.toInt : ℝ) / 100) ≤ b ^ ((99 : ℝ) / 100) :=
    Real.rpow_le_rpow_of_exponent_ge hb0 hb1 (by linarith)
  have h2 : b ^ ((99 : ℝ) / 100) ≤ 57 / 50000 := by
    refine (pow_le_pow_iff_left₀ (Real.rpow_pos_of_pos hb0 _).le (by norm_num) (by norm_num : (100 : ℕ) ≠ 0)).mp ?_
    rw [← Real.rpow_mul_natCast hb0.le, show (99 : ℝ) / 100 * ((100 : ℕ) : ℝ) = ((99 : ℕ) : ℝ) from by norm_num, Real.rpow_natCast, ← hb]
    norm_num
  linarith

/-- The weight of code `k` where the width is at most `57/5000`, flushed below the least normal number, is 1 for code 0 and 0 for
    every other. -/
theorem weight_eq (k : Fin 8192) (y : ℝ) (hy : 0 < y) (hw : y ≤ 57 / 5000) :
    (if Ideal.exp (Ideal.div (Ideal.ofBits .f32 3212836864#32 * (FloatOps.sitofp .f32 (BitVec.ofNat 32 (k : ℕ)) : Ideal .f32)) (y : EReal))
        < Ideal.ofBits .f32 8388608#32 then (0 : EReal)
      else Ideal.exp (Ideal.div (Ideal.ofBits .f32 3212836864#32 * (FloatOps.sitofp .f32 (BitVec.ofNat 32 (k : ℕ)) : Ideal .f32)) (y : EReal)))
      = if k = 0 then 1 else 0 := by
  have h1 : (Ideal.ofBits .f32 3212836864#32 : EReal) = ((-1 : ℝ) : EReal) := by
    simp [Ideal.ofBits, Ideal.ieee, -EReal.coe_mul]; norm_num [-EReal.coe_mul]
  have hm : (Ideal.ofBits .f32 8388608#32 : EReal) = ((2 ^ (-126 : ℤ) : ℝ) : EReal) := by
    simp [Ideal.ofBits, Ideal.ieee, -EReal.coe_mul]; norm_num [-EReal.coe_mul]
  have hs : (FloatOps.sitofp .f32 (BitVec.ofNat 32 (k : ℕ)) : Ideal .f32) = (((k : ℕ) : ℝ) : EReal) := by
    show ((((BitVec.ofNat 32 (k : ℕ)).toInt : ℤ) : ℝ) : EReal) = _
    rw [toInt_index _ k.isLt.le]; norm_num
  rw [h1, hm, hs, ← EReal.coe_mul, div_coe _ _ hy.ne']
  rw [show Ideal.exp (((-1 * ((k : ℕ) : ℝ)) / y : ℝ) : EReal) = ((Real.exp ((-1 * ((k : ℕ) : ℝ)) / y) : ℝ) : EReal) from rfl]
  by_cases hk : k = 0
  · subst hk
    rw [if_pos rfl, if_neg]
    · simp
    · rw [EReal.coe_lt_coe_iff, not_lt]
      simp only [Fin.val_zero, Nat.cast_zero, mul_zero, zero_div, Real.exp_zero]
      norm_num
  · rw [if_neg hk, if_pos]
    rw [EReal.coe_lt_coe_iff]
    have h1k : (1 : ℝ) ≤ ((k : ℕ) : ℝ) := by
      have : 1 ≤ (k : ℕ) := Nat.one_le_iff_ne_zero.mpr fun h => hk (Fin.ext h)
      exact_mod_cast this
    have hle : (-1 * ((k : ℕ) : ℝ)) / y ≤ -(175 / 2) := by
      rw [div_le_iff₀ hy]
      linarith
    have he : (2 : ℝ) ^ 126 < Real.exp (175 / 2) := by
      have h := Real.sum_le_exp_of_nonneg (x := 1) (by norm_num) 7
      norm_num [Finset.sum_range_succ, Nat.factorial] at h
      refine lt_of_pow_lt_pow_left₀ 2 (Real.exp_pos _).le ?_
      calc ((2 : ℝ) ^ 126) ^ 2 < (2.718 : ℝ) ^ 175 := by norm_num
        _ ≤ Real.exp 1 ^ 175 := pow_le_pow_left₀ (by norm_num) (by linarith) 175
        _ = Real.exp (175 / 2) ^ 2 := by rw [← Real.exp_nat_mul, ← Real.exp_nat_mul]; norm_num
    calc Real.exp _ ≤ Real.exp (-(175 / 2)) := Real.exp_le_exp.mpr hle
      _ = (Real.exp (175 / 2))⁻¹ := Real.exp_neg _
      _ < ((2 : ℝ) ^ 126)⁻¹ := inv_strictAnti₀ (by positivity) he
      _ = 2 ^ (-126 : ℤ) := by norm_num

/-! ## The six results, of the rows `x` of the tokens and `w` of the codes -/

variable (x : Fin 9216 → Fin 256 → EReal) (w : Fin 8192 → Fin 256 → EReal)

/-- The squared distance of token `r` from code `k`. -/
def dist (r : Fin 9216) (k : Fin 8192) : EReal :=
  (∑ a, x r a * x r a) + (∑ a, w k a * w k a) - Ideal.ofBits .f32 1073741824#32 * ∑ a, x r a * w k a

/-- The one-hot encoding of token `r`'s nearest code. -/
def enc (r : Fin 9216) (k : Fin 8192) : EReal := hot (nearest (dist x w r)) k

/-- The code vector taken for token `r`. -/
def quant (r : Fin 9216) (a : Fin 256) : EReal := ∑ k, enc x w r k * w k a

/-- The one-hot encoding of code 0's rank among token `r`'s distances. -/
def ranked (r : Fin 9216) (k : Fin 8192) : EReal := hot (rank (dist x w r)) k

/-- The straight-through value. -/
def straight (r : Fin 9216) (a : Fin 256) : EReal := x r a + (quant x w r a - x r a)

/-- The summed squared error. -/
def error : EReal := ∑ r, ∑ a, (quant x w r a - x r a) * (quant x w r a - x r a)

/-- The loss: a quarter of the mean squared error. -/
def loss : EReal := Ideal.ofBits .f32 1048576000#32 * Ideal.div (error x w) (Ideal.ofBits .f32 1242562560#32)

/-- How many tokens took code `k`. -/
def count (k : Fin 8192) : EReal := ∑ r, enc x w r k

/-- The perplexity of the codes' frequencies. -/
def perp : EReal :=
  Ideal.exp (-∑ k, Ideal.div (count x w k) (Ideal.ofBits .f32 1175453696#32)
    * Ideal.log (Ideal.div (count x w k) (Ideal.ofBits .f32 1175453696#32) + Ideal.ofBits .f32 786163455#32))

/-- The correction of the code book. -/
def delta (k : Fin 8192) (a : Fin 256) : EReal :=
  Ideal.ofBits .f32 981668463#32 * ((∑ r, ranked x w r k * x r a) - (∑ r, ranked x w r k) * w k a)

/-- The corrected code book. -/
def newWeight (k : Fin 8192) (a : Fin 256) : EReal := w k a + delta x w k a

end Cert.Row

end
-- ==== Proof.Body0.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.VecWindow
public import Idealize.ShloMosaic.Lib.WholeRead

@[expose] public section

/-!
# What one grid point of the first launch stores

The first launch walks the 72 row blocks of `x`. At its first point the body stores the block's tile into each of the four
accumulators; at every later point it adds the tile to what the accumulator held. Both cases store the block's encodings and
quantised rows. The two theorems here run the printed body over whole buffers and name what each buffer holds afterwards.
-/
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The column numbers of one block of distances. -/
abbrev cols : IVec S128x8192 32 := iota .tc S128x8192 32 [1] iota_S128x8192_d1_w32

section Tiles

variable (x : Vec F S128x256 .f32) (w : Vec F S8192x256 .f32) (x2 : Vec F S128x1 .f32) (w2 : Vec F S1x8192 .f32)

/-- The block's tile of `encᵀ·x`. -/
abbrev tileHv : Vec F S8192x256 .f32 := k0_pay2 x cols (k0_pay14 x w x2 w2)
/-- The block's column sums of the rank encoding. -/
abbrev tileSums : Vec F S1x8192 .f32 := k0_pay3 (F := F) cols (k0_pay14 x w x2 w2)
/-- The block's column sums of the nearest-code encoding. -/
abbrev tileCounts : Vec F S1x8192 .f32 := k0_pay4 (k0_pay11 x w x2 w2)
/-- The block's squared quantisation error. -/
abbrev tileEsum : Vec F S1x1 .f32 := k0_pay5 x (k0_pay12 x w x2 w2)
/-- A running `encᵀ·x` with the block's tile added. -/
abbrev nextHv (a : Vec F S8192x256 .f32) : Vec F S8192x256 .f32 := k0_pay6 x cols (k0_pay14 x w x2 w2) a
/-- Running rank column sums with the block's added. -/
abbrev nextSums (a : Vec F S1x8192 .f32) : Vec F S1x8192 .f32 := k0_pay7 cols (k0_pay14 x w x2 w2) a
/-- Running nearest-code column sums with the block's added. -/
abbrev nextCounts (a : Vec F S1x8192 .f32) : Vec F S1x8192 .f32 := k0_pay8 (k0_pay11 x w x2 w2) a
/-- A running squared error with the block's added. -/
abbrev nextEsum (a : Vec F S1x1 .f32) : Vec F S1x1 .f32 := k0_pay9 x (k0_pay12 x w x2 w2) a

end Tiles

set_option sl_exec.resultNames true in
set_option maxHeartbeats 1000000 in
/-- One first point: each accumulator is left at the block's tile. -/
theorem point_first (c : Dev nD) (i : grid0.Coords) (arg1 : Memref sig .tc .vmem S128x256 .f32) (harg1 : arg1.IsWhole) (arg2 : Memref sig .tc .vmem S8192x256 .f32) (harg2 : arg2.IsWhole) (arg3 : Memref sig .tc .vmem S128x1 .f32) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S8192x256 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S1x1 .f32) (harg10 : arg10.IsWhole)
    (hc0 : k0_cond1 i = 1#1) (hc1 : ¬ k0_cond2 i = 1#1)
    (x0 : Vec F S128x256 .f32) (x1 : Vec F S8192x256 .f32) (x2 : Vec F S128x1 .f32) (x3 : Vec F S1x8192 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay11 x0 x1 x2 x3) ∗ owns (c : Thread nD τ) arg6 fullShare (k0_pay13 x0 x1 x2 x3) ∗ owns (c : Thread nD τ) arg7 fullShare (tileHv x0 x1 x2 x3) ∗ owns (c : Thread nD τ) arg8 fullShare (tileSums x0 x1 x2 x3) ∗ owns (c : Thread nD τ) arg9 fullShare (tileCounts x0 x1 x2 x3) ∗ owns (c : Thread nD τ) arg10 fullShare (tileEsum x0 x1 x2 x3)) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10) K := by
  simp only [cc0__main_body_eq_skeleton]; unfold cc0__main_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3
  have e0 : ∀ inb, View.readAt (Elt F) arg1.view (Rect.unit (s := S128x256) ![0, 0] ![128, 256] inb).toLoadRect (harg1.unread x0) = x0 :=
    fun inb => (View.readAt_full arg1.view _ inb).trans (harg1.read_unread x0)
  have e1 : ∀ inb, View.readAt (Elt F) arg2.view (Rect.unit (s := S8192x256) ![0, 0] ![8192, 256] inb).toLoadRect (harg2.unread x1) = x1 :=
    fun inb => (View.readAt_full arg2.view _ inb).trans (harg2.read_unread x1)
  have e2 : ∀ inb, View.readAt (Elt F) arg3.view (Rect.unit (s := S128x1) ![0, 0] ![128, 1] inb).toLoadRect (harg3.unread x2) = x2 :=
    fun inb => (View.readAt_full arg3.view _ inb).trans (harg3.read_unread x2)
  have e3 : ∀ inb, View.readAt (Elt F) arg4.view (Rect.unit (s := S1x8192) ![0, 0] ![1, 8192] inb).toLoadRect (harg4.unread x3) = x3 :=
    fun inb => (View.readAt_full arg4.view _ inb).trans (harg4.read_unread x3)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; refine (View.read_writes_full arg5.view _ _ _ _).trans ?_
    rfl
  isplitl [H5]
  · iexists _; isplitr; swap; · iexact H5
    ipureintro; refine (View.read_writes_full arg6.view _ _ _ _).trans ?_
    rfl
  isplitl [H6]
  · iexists _; isplitr; swap; · iexact H6
    ipureintro; refine (View.read_writes_full arg7.view _ _ _ _).trans ?_
    rfl
  isplitl [H7]
  · iexists _; isplitr; swap; · iexact H7
    ipureintro; refine (View.read_writes_full arg8.view _ _ _ _).trans ?_
    rfl
  isplitl [H8]
  · iexists _; isplitr; swap; · iexact H8
    ipureintro; refine (View.read_writes_full arg9.view _ _ _ _).trans ?_
    rfl
  · iexists _; isplitr; swap; · iexact H9
    ipureintro; refine (View.read_writes_full arg10.view _ _ _ _).trans ?_
    rfl

set_option sl_exec.resultNames true in
set_option maxHeartbeats 1000000 in
/-- One later point: each accumulator is left with the block's tile added to what it held. -/
theorem point_later (c : Dev nD) (i : grid0.Coords) (arg1 : Memref sig .tc .vmem S128x256 .f32) (harg1 : arg1.IsWhole) (arg2 : Memref sig .tc .vmem S8192x256 .f32) (harg2 : arg2.IsWhole) (arg3 : Memref sig .tc .vmem S128x1 .f32) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S8192x256 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S1x1 .f32) (harg10 : arg10.IsWhole)
    (hc0 : ¬ k0_cond1 i = 1#1) (hc1 : k0_cond2 i = 1#1)
    (x0 : Vec F S128x256 .f32) (x1 : Vec F S8192x256 .f32) (x2 : Vec F S128x1 .f32) (x3 : Vec F S1x8192 .f32) (a6 : Vec F S8192x256 .f32) (a7 : Vec F S1x8192 .f32) (a8 : Vec F S1x8192 .f32) (a9 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare a6 ∗ owns (c : Thread nD τ) arg8 fullShare a7 ∗ owns (c : Thread nD τ) arg9 fullShare a8 ∗ owns (c : Thread nD τ) arg10 fullShare a9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay11 x0 x1 x2 x3) ∗ owns (c : Thread nD τ) arg6 fullShare (k0_pay13 x0 x1 x2 x3) ∗ owns (c : Thread nD τ) arg7 fullShare (nextHv x0 x1 x2 x3 a6) ∗ owns (c : Thread nD τ) arg8 fullShare (nextSums x0 x1 x2 x3 a7) ∗ owns (c : Thread nD τ) arg9 fullShare (nextCounts x0 x1 x2 x3 a8) ∗ owns (c : Thread nD τ) arg10 fullShare (nextEsum x0 x1 x2 x3 a9)) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10) K := by
  simp only [cc0__main_body_eq_skeleton]; unfold cc0__main_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hf8; obtain rfl := harg10.eq_unread hf9
  have e0 : ∀ inb, View.readAt (Elt F) arg1.view (Rect.unit (s := S128x256) ![0, 0] ![128, 256] inb).toLoadRect (harg1.unread x0) = x0 :=
    fun inb => (View.readAt_full arg1.view _ inb).trans (harg1.read_unread x0)
  have e1 : ∀ inb, View.readAt (Elt F) arg2.view (Rect.unit (s := S8192x256) ![0, 0] ![8192, 256] inb).toLoadRect (harg2.unread x1) = x1 :=
    fun inb => (View.readAt_full arg2.view _ inb).trans (harg2.read_unread x1)
  have e2 : ∀ inb, View.readAt (Elt F) arg3.view (Rect.unit (s := S128x1) ![0, 0] ![128, 1] inb).toLoadRect (harg3.unread x2) = x2 :=
    fun inb => (View.readAt_full arg3.view _ inb).trans (harg3.read_unread x2)
  have e3 : ∀ inb, View.readAt (Elt F) arg4.view (Rect.unit (s := S1x8192) ![0, 0] ![1, 8192] inb).toLoadRect (harg4.unread x3) = x3 :=
    fun inb => (View.readAt_full arg4.view _ inb).trans (harg4.read_unread x3)
  have e6 : ∀ inb, View.readAt (Elt F) arg7.view (Rect.unit (s := S8192x256) ![0, 0] ![8192, 256] inb).toLoadRect (harg7.unread a6) = a6 :=
    fun inb => (View.readAt_full arg7.view _ inb).trans (harg7.read_unread a6)
  have e7 : ∀ inb, View.readAt (Elt F) arg8.view (Rect.unit (s := S1x8192) ![0, 0] ![1, 8192] inb).toLoadRect (harg8.unread a7) = a7 :=
    fun inb => (View.readAt_full arg8.view _ inb).trans (harg8.read_unread a7)
  have e8 : ∀ inb, View.readAt (Elt F) arg9.view (Rect.unit (s := S1x8192) ![0, 0] ![1, 8192] inb).toLoadRect (harg9.unread a8) = a8 :=
    fun inb => (View.readAt_full arg9.view _ inb).trans (harg9.read_unread a8)
  have e9 : ∀ inb, View.readAt (Elt F) arg10.view (Rect.unit (s := S1x1) ![0, 0] ![1, 1] inb).toLoadRect (harg10.unread a9) = a9 :=
    fun inb => (View.readAt_full arg10.view _ inb).trans (harg10.read_unread a9)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; refine (View.read_writes_full arg5.view _ _ _ _).trans ?_
    rfl
  isplitl [H5]
  · iexists _; isplitr; swap; · iexact H5
    ipureintro; refine (View.read_writes_full arg6.view _ _ _ _).trans ?_
    rfl
  isplitl [H6]
  · iexists _; isplitr; swap; · iexact H6
    ipureintro; refine (View.read_writes_full arg7.view _ _ _ _).trans ?_
    rfl
  isplitl [H7]
  · iexists _; isplitr; swap; · iexact H7
    ipureintro; refine (View.read_writes_full arg8.view _ _ _ _).trans ?_
    rfl
  isplitl [H8]
  · iexists _; isplitr; swap; · iexact H8
    ipureintro; refine (View.read_writes_full arg9.view _ _ _ _).trans ?_
    rfl
  · iexists _; isplitr; swap; · iexact H9
    ipureintro; refine (View.read_writes_full arg10.view _ _ _ _).trans ?_
    rfl

end Cert.KernelIdeal.Own

end
-- ==== Proof.KPay.lean ====
module

public import proofs.«01_k».proof.Proof.Spec
public import proofs.«01_k».proof.Proof.Body0

@[expose] public section

/-!
# What one grid point of the first launch computes, element by element

The values the body stores, read at an index at the ideal values, for a block holding the tokens `g r` of the rows `X`.
-/

set_option maxRecDepth 16384

noncomputable section

namespace Cert.KernelIdeal.Own

open Cert.KernelIdeal Cert.KernelIdeal.Gen
open Idealize.ShloMosaic

section Plain

variable (x : Vec Ideal S128x256 .f32) (w : Vec Ideal S8192x256 .f32) (x2 : Vec Ideal S128x1 .f32) (w2 : Vec Ideal S1x8192 .f32)

/-- The distance of token `r` to code `k`. -/
theorem pay10_plain (r : Fin 128) (k : Fin 8192) : (k0_pay10 x w x2 w2 (ix2 r k) : EReal)
    = x2 (ix2 r 0) + w2 (ix2 0 k) - Ideal.ofBits .f32 1073741824#32 * ∑ a, x (ix2 r a) * w (ix2 k a) := by
  pointwise [k0_pay10]

/-- The encoding: one-hot at the nearest code. -/
theorem pay11_plain (r : Fin 128) (k : Fin 8192) : (k0_pay11 x w x2 w2 (ix2 r k) : EReal)
    = Row.hot (Row.nearest fun j => k0_pay10 x w x2 w2 (ix2 r j)) k := by
  have h : k0_pay11 x w x2 w2 (ix2 r k) = (FloatOps.sitofp .f32 (BitVec.setWidth 32 (IntOp.cmpi .eq (BitVec.ofNat 32 (k : ℕ))
      (Finset.fold IntOp.minsi 2147483647#32 (fun j => if k0_pay10 x w x2 w2 (ix2 r j)
          = Finset.fold min (Ideal.ofBits .f32 2139095040#32) (fun j' => k0_pay10 x w x2 w2 (ix2 r j')) Finset.univ
        then BitVec.ofNat 32 (j : ℕ) else 8192#32) Finset.univ))) : Ideal .f32) := by
    pointwise [k0_pay11]
  have ht : (Ideal.ofBits .f32 2139095040#32 : EReal) = ⊤ := by simp [Ideal.ofBits, Ideal.ieee]
  rw [h, ht, Row.fold_min (fun j => k0_pay10 x w x2 w2 (ix2 r j)), Row.fold_minsi (fun j => k0_pay10 x w x2 w2 (ix2 r j))]
  exact Row.sitofp_hot _ k

/-- The rank of code 0, the same in every column. -/
theorem pay14_plain (r : Fin 128) (k : Fin 8192) : k0_pay14 x w x2 w2 (ix2 r k)
    = BitVec.ofNat 32 (Row.rank fun j => k0_pay10 x w x2 w2 (ix2 r j) : ℕ) := by
  rw [← Row.fold_addi]
  pointwise [k0_pay14]

/-- The code vector taken, as a sum over codes. -/
theorem pay12_plain (r : Fin 128) (a : Fin 256) : (k0_pay12 x w x2 w2 (ix2 r a) : EReal)
    = ∑ k, k0_pay11 x w x2 w2 (ix2 r k) * w (ix2 k a) := by
  pointwise [k0_pay12]

/-- The straight-through row. -/
theorem pay13_plain (r : Fin 128) (a : Fin 256) : (k0_pay13 x w x2 w2 (ix2 r a) : EReal)
    = x (ix2 r a) + (k0_pay12 x w x2 w2 (ix2 r a) - x (ix2 r a)) := by
  pointwise [k0_pay13]

variable (v : IVec S128x8192 32) (e : FVec Ideal S128x8192 .f32) (q : FVec Ideal S128x256 .f32)

/-- The column numbers. -/
theorem cols_at (r : Fin 128) (k : Fin 8192) : cols (ix2 r k) = BitVec.ofNat 32 (k : ℕ) := by
  unfold cols
  pointwise

/-- A block's ranked sum of its tokens. -/
theorem pay2_plain (c : IVec S128x8192 32) (k : Fin 8192) (a : Fin 256) : (k0_pay2 x c v (ix2 k a) : EReal)
    = ∑ r, (FloatOps.sitofp .f32 (BitVec.setWidth 32 (IntOp.cmpi .eq (c (ix2 r k)) (v (ix2 r k)))) : Ideal .f32) * x (ix2 r a) := by
  pointwise [k0_pay2, k0_pay1]

/-- A block's column sums of the rank matrix. -/
theorem pay3_plain (c : IVec S128x8192 32) (k : Fin 8192) : (k0_pay3 (F := Ideal) c v (ix2 0 k) : EReal)
    = ∑ r, (FloatOps.sitofp .f32 (BitVec.setWidth 32 (IntOp.cmpi .eq (c (ix2 r k)) (v (ix2 r k)))) : Ideal .f32) := by
  pointwise [k0_pay3, k0_pay1]

/-- A block's column sums of the encodings. -/
theorem pay4_plain (k : Fin 8192) : (k0_pay4 e (ix2 0 k) : EReal) = ∑ r, e (ix2 r k) := by
  pointwise [k0_pay4]

/-- A block's squared error. -/
theorem pay5_plain : (k0_pay5 x q (ix2 0 0) : EReal) = ∑ r, ∑ a, (q (ix2 r a) - x (ix2 r a)) * (q (ix2 r a) - x (ix2 r a)) := by
  pointwise [k0_pay5]

/-- The ranked sum added to what was there. -/
theorem pay6_plain (c : IVec S128x8192 32) (o : Vec Ideal S8192x256 .f32) (k : Fin 8192) (a : Fin 256) :
    (k0_pay6 x c v o (ix2 k a) : EReal) = o (ix2 k a) + k0_pay2 x c v (ix2 k a) := by
  pointwise [k0_pay6]

/-- The rank column sums added to what was there. -/
theorem pay7_plain (c : IVec S128x8192 32) (o : Vec Ideal S1x8192 .f32) (k : Fin 8192) :
    (k0_pay7 c v o (ix2 0 k) : EReal) = o (ix2 0 k) + k0_pay3 (F := Ideal) c v (ix2 0 k) := by
  pointwise [k0_pay7]

/-- The encoding column sums added to what was there. -/
theorem pay8_plain (o : Vec Ideal S1x8192 .f32) (k : Fin 8192) : (k0_pay8 e o (ix2 0 k) : EReal) = o (ix2 0 k) + k0_pay4 e (ix2 0 k) := by
  pointwise [k0_pay8]

/-- The squared error added to what was there. -/
theorem pay9_plain (o : Vec Ideal S1x1 .f32) : (k0_pay9 x q o (ix2 0 0) : EReal) = o (ix2 0 0) + k0_pay5 x q (ix2 0 0) := by
  pointwise [k0_pay9]

end Plain

/-- The buffers of a point hold the tokens `g r` of the rows `X`, the codes `W`, and their squared norms. -/
structure IsBlock (X : Fin 9216 → Fin 256 → EReal) (W : Fin 8192 → Fin 256 → EReal) (g : Fin 128 → Fin 9216)
    (x : Vec Ideal S128x256 .f32) (w : Vec Ideal S8192x256 .f32) (x2 : Vec Ideal S128x1 .f32) (w2 : Vec Ideal S1x8192 .f32) : Prop where
  x : ∀ r a, (x (ix2 r a) : EReal) = X (g r) a
  w : ∀ k a, (w (ix2 k a) : EReal) = W k a
  x2 : ∀ r, (x2 (ix2 r 0) : EReal) = ∑ a, X (g r) a * X (g r) a
  w2 : ∀ k, (w2 (ix2 0 k) : EReal) = ∑ a, W k a * W k a

variable {X : Fin 9216 → Fin 256 → EReal} {W : Fin 8192 → Fin 256 → EReal} {g : Fin 128 → Fin 9216}
  {x : Vec Ideal S128x256 .f32} {w : Vec Ideal S8192x256 .f32} {x2 : Vec Ideal S128x1 .f32} {w2 : Vec Ideal S1x8192 .f32}
  (h : IsBlock X W g x w x2 w2)

include h

/-- The block's distances are those of its tokens. -/
theorem IsBlock.dist (r : Fin 128) (k : Fin 8192) : (k0_pay10 x w x2 w2 (ix2 r k) : EReal) = Row.dist X W (g r) k := by
  rw [pay10_plain, h.x2, h.w2]
  simp only [h.x, h.w]
  rfl

/-- The same, of a whole row. -/
theorem IsBlock.row (r : Fin 128) : (fun j => (k0_pay10 x w x2 w2 (ix2 r j) : EReal)) = Row.dist X W (g r) :=
  funext fun k => h.dist r k

/-- The block's encodings are those of its tokens. -/
theorem IsBlock.enc (r : Fin 128) (k : Fin 8192) : (k0_pay11 x w x2 w2 (ix2 r k) : EReal) = Row.enc X W (g r) k := by
  rw [pay11_plain, h.row]; rfl

/-- The block's ranks are those of its tokens. -/
theorem IsBlock.rank (r : Fin 128) (k : Fin 8192) : k0_pay14 x w x2 w2 (ix2 r k) = BitVec.ofNat 32 (Row.rank (Row.dist X W (g r)) : ℕ) := by
  rw [pay14_plain, h.row]

/-- The code vectors taken are those of its tokens. -/
theorem IsBlock.quant (r : Fin 128) (a : Fin 256) : (k0_pay12 x w x2 w2 (ix2 r a) : EReal) = Row.quant X W (g r) a := by
  rw [pay12_plain]
  simp only [h.enc, h.w]; rfl

/-- The straight-through rows are those of its tokens. -/
theorem IsBlock.straight (r : Fin 128) (a : Fin 256) : (k0_pay13 x w x2 w2 (ix2 r a) : EReal) = Row.straight X W (g r) a := by
  rw [pay13_plain]
  simp only [h.quant, h.x]; rfl

/-- The rank matrix, as numbers. -/
theorem IsBlock.hot (r : Fin 128) (k : Fin 8192) :
    ((FloatOps.sitofp .f32 (BitVec.setWidth 32 (IntOp.cmpi .eq (cols (ix2 r k)) (k0_pay14 x w x2 w2 (ix2 r k)))) : Ideal .f32) : EReal)
      = Row.ranked X W (g r) k := by
  rw [cols_at, h.rank]
  exact Row.sitofp_hot _ k

/-- The block's share of the ranked sums. -/
theorem IsBlock.tileHv (k : Fin 8192) (a : Fin 256) : (tileHv x w x2 w2 (ix2 k a) : EReal) = ∑ r, Row.ranked X W (g r) k * X (g r) a := by
  refine (pay2_plain x _ _ k a).trans ?_
  exact Finset.sum_congr rfl fun r _ => by rw [h.hot, h.x]

/-- The block's share of the rank column sums. -/
theorem IsBlock.tileSums (k : Fin 8192) : (tileSums x w x2 w2 (ix2 0 k) : EReal) = ∑ r, Row.ranked X W (g r) k := by
  refine (pay3_plain _ _ k).trans ?_
  exact Finset.sum_congr rfl fun r _ => h.hot r k

/-- The block's share of the counts. -/
theorem IsBlock.tileCounts (k : Fin 8192) : (tileCounts x w x2 w2 (ix2 0 k) : EReal) = ∑ r, Row.enc X W (g r) k := by
  refine (pay4_plain _ k).trans ?_
  exact Finset.sum_congr rfl fun r _ => h.enc r k

/-- The block's share of the squared error. -/
theorem IsBlock.tileEsum : (tileEsum x w x2 w2 (ix2 0 0) : EReal)
    = ∑ r, ∑ a, (Row.quant X W (g r) a - X (g r) a) * (Row.quant X W (g r) a - X (g r) a) := by
  refine (pay5_plain x _).trans ?_
  exact Finset.sum_congr rfl fun r _ => Finset.sum_congr rfl fun a _ => by rw [h.quant, h.x]

end Cert.KernelIdeal.Own

end
-- ==== Proof.Body1.lean ====
module

public import proofs.«01_k».proof.Proof.Body0

@[expose] public section

/-!
# What one grid point of the second launch stores

The second launch walks the 8 row blocks of the code book. Every point stores the block's delta and its new weights; the first
point alone stores the loss and the perplexity.
-/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
/-- The first point of the second launch: the delta, the new weights, the loss and the perplexity are stored. -/
theorem epi_first (c : Dev nD) (i : grid1.Coords) (arg1 : Memref sig .tc .vmem S1024x256 .f32) (harg1 : arg1.IsWhole) (arg2 : Memref sig .tc .vmem S1024x256 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1x1 .f32) (harg8 : arg8.IsWhole) (arg9 : Memref sig .tc .vmem S1x1 .f32) (harg9 : arg9.IsWhole)
    (hc : k1_cond1 i = 1#1)
    (x0 : Vec F S1024x256 .f32) (x1 : Vec F S1024x256 .f32) (x2 : Vec F S1024x1 .f32) (x3 : Vec F S1x8192 .f32) (x4 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x2 x1) ∗ owns (c : Thread nD τ) arg7 fullShare (k1_pay2 x0 x2 x1) ∗ owns (c : Thread nD τ) arg8 fullShare (k1_pay3 x4) ∗ owns (c : Thread nD τ) arg9 fullShare (k1_pay4 x3)) -∗ K ⟨⟩))
      ⊢ wp frame (wpE (defs₀ (F := F)) Variants.none c none) E (cc1__epi_body i arg1 harg1 arg2 harg2 arg3 harg3 arg4 harg4 arg5 harg5 arg6 harg6 arg7 harg7 arg8 harg8 arg9 harg9) K := by
  simp only [cc1__epi_body_eq_skeleton]; unfold cc1__epi_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4
  have e0 : ∀ inb, View.readAt (Elt F) arg1.view (Rect.unit (s := S1024x256) ![0, 0] ![1024, 256] inb).toLoadRect (harg1.unread x0) = x0 :=
    fun inb => (View.readAt_full arg1.view _ inb).trans (harg1.read_unread x0)
  have e1 : ∀ inb, View.readAt (Elt F) arg2.view (Rect.unit (s := S1024x256) ![0, 0] ![1024, 256] inb).toLoadRect (harg2.unread x1) = x1 :=
    fun inb => (View.readAt_full arg2.view _ inb).trans (harg2.read_unread x1)
  have e2 : ∀ inb, View.readAt (Elt F) arg3.view (Rect.unit (s := S1024x1) ![0, 0] ![1024, 1] inb).toLoadRect (harg3.unread x2) = x2 :=
    fun inb => (View.readAt_full arg3.view _ inb).trans (harg3.read_unread x2)
  have e3 : ∀ inb, View.readAt (Elt F) arg4.view (Rect.unit (s := S1x8192) ![0, 0] ![1, 8192] inb).toLoadRect (harg4.unread x3) = x3 :=
    fun inb => (View.readAt_full arg4.view _ inb).trans (harg4.read_unread x3)
  have e4 : ∀ inb, View.readAt (Elt F) arg5.view (Rect.unit (s := S1x1) ![0, 0] ![1, 1] inb).toLoadRect (harg5.unread x4) = x4 :=
    fun inb => (View.readAt_full arg5.view _ inb).trans (harg5.read_unread x4)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; refine (View.read_writes_full arg6.view _ _ _ _).trans ?_
    rfl
  isplitl [H6]
  · iexists _; isplitr; swap; · iexact H6
    ipureintro; refine (View.read_writes_full arg7.view _ _ _ _).trans ?_
    rfl
  isplitl [H7]
  · iexists _; isplitr; swap; · iexact H7
    ipureintro; refine (View.read_writes_full arg8.view _ _ _ _).trans ?_
    rfl
  · iexists _; isplitr; swap; · iexact H8
    ipureintro; refine (View.read_writes_full arg9.view _ _ _ _).trans ?_
    rfl

set_option maxHeartbeats 1000000 in
/-- A later point of the second launch: the delta and the new weights are stored, the two scalars left as they were. -/
theorem epi_later (c : Dev nD) (i : grid1.Coords) (arg1 : Memref sig .tc .vmem S1024x256 .f32) (harg1 : arg1.IsWhole) (arg2 : Memref sig .tc .vmem S1024x256 .f32) (harg2 : arg2.IsWhole) (arg3 : Memref sig .tc .vmem S1024x1 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1x1 .f32) (harg8 : arg8.IsWhole) (arg9 : Memref sig .tc .vmem S1x1 .f32) (harg9 : arg9.IsWhole)
    (hc : ¬ k1_cond1 i = 1#1)
    (x0 : Vec F S1024x256 .f32) (x1 : Vec F S1024x256 .f32) (x2 : Vec F S1024x1 .f32) (x3 : Vec F S1x8192 .f32) (x4 : Vec F S1x1 .f32) (a7 a8 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare a7 ∗ owns (c : Thread nD τ) arg9 fullShare a8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x2 x1) ∗ owns (c : Thread nD τ) arg7 fullShare (k1_pay2 x0 x2 x1) ∗ owns (c : Thread nD τ) arg8 fullShare a7 ∗ owns (c : Thread nD τ) arg9 fullShare a8) -∗ K ⟨⟩))
      ⊢ wp frame (wpE (defs₀ (F := F)) Variants.none c none) E (cc1__epi_body i arg1 harg1 arg2 harg2 arg3 harg3 arg4 harg4 arg5 harg5 arg6 harg6 arg7 harg7 arg8 harg8 arg9 harg9) K := by
  simp only [cc1__epi_body_eq_skeleton]; unfold cc1__epi_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4
  have e0 : ∀ inb, View.readAt (Elt F) arg1.view (Rect.unit (s := S1024x256) ![0, 0] ![1024, 256] inb).toLoadRect (harg1.unread x0) = x0 :=
    fun inb => (View.readAt_full arg1.view _ inb).trans (harg1.read_unread x0)
  have e1 : ∀ inb, View.readAt (Elt F) arg2.view (Rect.unit (s := S1024x256) ![0, 0] ![1024, 256] inb).toLoadRect (harg2.unread x1) = x1 :=
    fun inb => (View.readAt_full arg2.view _ inb).trans (harg2.read_unread x1)
  have e2 : ∀ inb, View.readAt (Elt F) arg3.view (Rect.unit (s := S1024x1) ![0, 0] ![1024, 1] inb).toLoadRect (harg3.unread x2) = x2 :=
    fun inb => (View.readAt_full arg3.view _ inb).trans (harg3.read_unread x2)
  have e3 : ∀ inb, View.readAt (Elt F) arg4.view (Rect.unit (s := S1x8192) ![0, 0] ![1, 8192] inb).toLoadRect (harg4.unread x3) = x3 :=
    fun inb => (View.readAt_full arg4.view _ inb).trans (harg4.read_unread x3)
  have e4 : ∀ inb, View.readAt (Elt F) arg5.view (Rect.unit (s := S1x1) ![0, 0] ![1, 1] inb).toLoadRect (harg5.unread x4) = x4 :=
    fun inb => (View.readAt_full arg5.view _ inb).trans (harg5.read_unread x4)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; refine (View.read_writes_full arg6.view _ _ _ _).trans ?_
    rfl
  isplitl [H6]
  · iexists _; isplitr; swap; · iexact H6
    ipureintro; refine (View.read_writes_full arg7.view _ _ _ _).trans ?_
    rfl
  isplitl [H7]
  · iexists _; isplitr; swap; · iexact H7
    ipureintro; exact hf7
  · iexists _; isplitr; swap; · iexact H8
    ipureintro; exact hf8

end Cert.KernelIdeal.Own

end
-- ==== Proof.Points0.lean ====
module

public import proofs.«01_k».proof.Proof.Body0
public import Idealize.ShloMosaic.Lib.Pipeline.FrameBody
public import Idealize.ShloMosaic.Lib.Pipeline.TableIdle
public import Idealize.ShloMosaic.Lib.WordCmp

@[expose] public section

/-!
# The first launch, point by point

The proof data of the first launch entered with any buffer contents `V`: what each window's staging buffer holds after the body
at each of the 72 points. The four accumulators are written as recursions over the points.
-/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What every buffer of every core holds when a launch is entered. -/
abbrev Vals (F : FTy → Type) : Type := (c : Dev nD) → (b : Ref sig .tc) → Buf (Elt F) ((c : Thread nD τ).loc b)

variable (V : Vals F)

/-- Window `w`'s block at point `t`, read from the entry contents. -/
abbrev blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` at point `t`. -/
abbrev xB (c : Dev nD) (t : Fin cfg0.N) : Vec F S128x256 .f32 := blk0 V c 0 t
/-- The code book. -/
abbrev wB (c : Dev nD) (t : Fin cfg0.N) : Vec F S8192x256 .f32 := blk0 V c 1 t
/-- The squared norms of the rows at point `t`. -/
abbrev x2B (c : Dev nD) (t : Fin cfg0.N) : Vec F S128x1 .f32 := blk0 V c 2 t
/-- The squared norms of the codes. -/
abbrev w2B (c : Dev nD) (t : Fin cfg0.N) : Vec F S1x8192 .f32 := blk0 V c 3 t

/-- The running `encᵀ·x` after point `n`. -/
def accHv (c : Dev nD) : (n : ℕ) → n < cfg0.N → Vec F S8192x256 .f32
  | 0, h => tileHv (xB V c ⟨0, h⟩) (wB V c ⟨0, h⟩) (x2B V c ⟨0, h⟩) (w2B V c ⟨0, h⟩)
  | n + 1, h => nextHv (xB V c ⟨n + 1, h⟩) (wB V c ⟨n + 1, h⟩) (x2B V c ⟨n + 1, h⟩) (w2B V c ⟨n + 1, h⟩) (accHv c n (Nat.lt_of_succ_lt h))

/-- The running rank column sums after point `n`. -/
def accSums (c : Dev nD) : (n : ℕ) → n < cfg0.N → Vec F S1x8192 .f32
  | 0, h => tileSums (xB V c ⟨0, h⟩) (wB V c ⟨0, h⟩) (x2B V c ⟨0, h⟩) (w2B V c ⟨0, h⟩)
  | n + 1, h => nextSums (xB V c ⟨n + 1, h⟩) (wB V c ⟨n + 1, h⟩) (x2B V c ⟨n + 1, h⟩) (w2B V c ⟨n + 1, h⟩) (accSums c n (Nat.lt_of_succ_lt h))

/-- The running nearest-code column sums after point `n`. -/
def accCounts (c : Dev nD) : (n : ℕ) → n < cfg0.N → Vec F S1x8192 .f32
  | 0, h => tileCounts (xB V c ⟨0, h⟩) (wB V c ⟨0, h⟩) (x2B V c ⟨0, h⟩) (w2B V c ⟨0, h⟩)
  | n + 1, h => nextCounts (xB V c ⟨n + 1, h⟩) (wB V c ⟨n + 1, h⟩) (x2B V c ⟨n + 1, h⟩) (w2B V c ⟨n + 1, h⟩) (accCounts c n (Nat.lt_of_succ_lt h))

/-- The running squared error after point `n`. -/
def accEsum (c : Dev nD) : (n : ℕ) → n < cfg0.N → Vec F S1x1 .f32
  | 0, h => tileEsum (xB V c ⟨0, h⟩) (wB V c ⟨0, h⟩) (x2B V c ⟨0, h⟩) (w2B V c ⟨0, h⟩)
  | n + 1, h => nextEsum (xB V c ⟨n + 1, h⟩) (wB V c ⟨n + 1, h⟩) (x2B V c ⟨n + 1, h⟩) (w2B V c ⟨n + 1, h⟩) (accEsum c n (Nat.lt_of_succ_lt h))

/-- The first launch's proof data: the arrays as entered, each input left in place, the encodings and the quantised rows
    computed from the block, the accumulators by their recursions; nothing is owed and every array is held in full. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => k0_pay11 (xB V c t) (wB V c t) (x2B V c t) (w2B V c t)
    | ⟨5, _⟩ => k0_pay13 (xB V c t) (wB V c t) (x2B V c t) (w2B V c t)
    | ⟨6, _⟩ => accHv V c t.val t.isLt
    | ⟨7, _⟩ => accSums V c t.val t.isLt
    | ⟨8, _⟩ => accCounts V c t.val t.isLt
    | ⟨9, _⟩ => accEsum V c t.val t.isLt
  Φ _ := Pipeline.scopedRest (Ix := Unit) (Name := ℕ) (U := UR sig nD τ) (Lvl := ℕ) (Val := Elt F) spec0 c
  q _ := fullShare
  owed _ := 0

/-- No window of the first launch is ever idle. -/
theorem live0 : ∀ (w : Fin cfg0.W) (t : Fin cfg0.N), cfg0.idle w (cfg0.grid.coords t) = false :=
  (by decide +kernel : ∀ (w : Fin 10) (t : Fin grid0.N), idle0 w (grid0.coords t) = false)

/-- The first `scf.if` is taken at the first point only. -/
theorem first0 (t : Fin cfg0.N) : k0_cond1 (grid0.coords t) = 1#1 ↔ t.val = 0 :=
  (by decide +kernel : ∀ t : Fin grid0.N, k0_cond1 (grid0.coords t) = 1#1 ↔ t.val = 0) t

/-- The second `scf.if` is taken at every other point. -/
theorem later0 (t : Fin cfg0.N) : k0_cond2 (grid0.coords t) = 1#1 ↔ t.val ≠ 0 :=
  (by decide +kernel : ∀ t : Fin grid0.N, k0_cond2 (grid0.coords t) = 1#1 ↔ t.val ≠ 0) t

/-- Input 0's staging buffer holds its block at every point. -/
theorem before0_0 (c : Dev nD) (t : Fin cfg0.N) (d) : (dat0 V c).before 0 t d = blk0 V c 0 t :=
  ((dat0 V c).before_in_eq_fetched 0 rfl (fun _ => rfl) (fun _ _ _ => rfl) (fun t => rfl) t d).trans rfl

/-- Input 1's staging buffer holds its block at every point. -/
theorem before0_1 (c : Dev nD) (t : Fin cfg0.N) (d) : (dat0 V c).before 1 t d = blk0 V c 1 t :=
  ((dat0 V c).before_in_eq_fetched 1 rfl (fun _ => rfl) (fun _ _ _ => rfl) (fun t => rfl) t d).trans rfl

/-- Input 2's staging buffer holds its block at every point. -/
theorem before0_2 (c : Dev nD) (t : Fin cfg0.N) (d) : (dat0 V c).before 2 t d = blk0 V c 2 t :=
  ((dat0 V c).before_in_eq_fetched 2 rfl (fun _ => rfl) (fun _ _ _ => rfl) (fun t => rfl) t d).trans rfl

/-- Input 3's staging buffer holds its block at every point. -/
theorem before0_3 (c : Dev nD) (t : Fin cfg0.N) (d) : (dat0 V c).before 3 t d = blk0 V c 3 t :=
  ((dat0 V c).before_in_eq_fetched 3 rfl (fun _ => rfl) (fun _ _ _ => rfl) (fun t => rfl) t d).trans rfl

/-- After the first point an accumulator's buffer holds what the point before left. -/
theorem carried0 (c : Dev nD) (w : Fin cfg0.W) (hw : (cfg0.win w).isOut = true) (hclip : ∀ (i : cfg0.grid.Coords) a, (cfg0.win w).clip i a = none)
    (t : Fin cfg0.N) (ht : t.val ≠ 0)
    (hf : (cfg0.win w).flush ⟨t.val - 1, Nat.lt_of_le_of_lt (Nat.sub_le _ _) t.isLt⟩ = false) (d) :
    (dat0 V c).before w t d = (dat0 V c).after w ⟨t.val - 1, Nat.lt_of_le_of_lt (Nat.sub_le _ _) t.isLt⟩ := by
  rw [Dat.before_out_traj _ w hw hclip (fun t _ hi _ => absurd ((live0 w t).symm.trans hi) (by decide)) t.val t rfl d, if_neg]
  obtain ⟨n, hn⟩ := Nat.exists_eq_succ_of_ne_zero ht
  rw [hn, Nat.succ_eq_add_one, Cfg.fresh_succ cfg0 w n (by have := t.isLt; omega), live0 w]
  simp only [hn, Nat.succ_eq_add_one, Nat.add_sub_cancel] at hf
  rw [hf]; simp

/-- Accumulator 6 at a later point. -/
theorem before0_6 (c : Dev nD) (t : Fin cfg0.N) (ht : t.val ≠ 0) (d) :
    (dat0 V c).before 6 t d = accHv V c (t.val - 1) (Nat.lt_of_le_of_lt (Nat.sub_le _ _) t.isLt) :=
  carried0 V c 6 rfl (fun _ _ => rfl) t ht (by
    have h := t.isLt; have hN : cfg0.N = 72 := N_0
    refine Bool.eq_false_iff.mpr fun hf => ?_
    have := (flush0_6 ⟨t.val - 1, by omega⟩).mp hf
    simp only at this; omega) d

/-- Accumulator 7 at a later point. -/
theorem before0_7 (c : Dev nD) (t : Fin cfg0.N) (ht : t.val ≠ 0) (d) :
    (dat0 V c).before 7 t d = accSums V c (t.val - 1) (Nat.lt_of_le_of_lt (Nat.sub_le _ _) t.isLt) :=
  carried0 V c 7 rfl (fun _ _ => rfl) t ht (by
    have h := t.isLt; have hN : cfg0.N = 72 := N_0
    refine Bool.eq_false_iff.mpr fun hf => ?_
    have := (flush0_7 ⟨t.val - 1, by omega⟩).mp hf
    simp only at this; omega) d

/-- Accumulator 8 at a later point. -/
theorem before0_8 (c : Dev nD) (t : Fin cfg0.N) (ht : t.val ≠ 0) (d) :
    (dat0 V c).before 8 t d = accCounts V c (t.val - 1) (Nat.lt_of_le_of_lt (Nat.sub_le _ _) t.isLt) :=
  carried0 V c 8 rfl (fun _ _ => rfl) t ht (by
    have h := t.isLt; have hN : cfg0.N = 72 := N_0
    refine Bool.eq_false_iff.mpr fun hf => ?_
    have := (flush0_8 ⟨t.val - 1, by omega⟩).mp hf
    simp only at this; omega) d

/-- Accumulator 9 at a later point. -/
theorem before0_9 (c : Dev nD) (t : Fin cfg0.N) (ht : t.val ≠ 0) (d) :
    (dat0 V c).before 9 t d = accEsum V c (t.val - 1) (Nat.lt_of_le_of_lt (Nat.sub_le _ _) t.isLt) :=
  carried0 V c 9 rfl (fun _ _ => rfl) t ht (by
    have h := t.isLt; have hN : cfg0.N = 72 := N_0
    refine Bool.eq_false_iff.mpr fun hf => ?_
    have := (flush0_9 ⟨t.val - 1, by omega⟩).mp hf
    simp only at this; omega) d

/-- The ranked sums at the first point: the block's share. -/
theorem accHv_first (c : Dev nD) (t : Fin cfg0.N) (ht : t.val = 0) :
    accHv V c t.val t.isLt = tileHv (xB V c t) (wB V c t) (x2B V c t) (w2B V c t) := by
  obtain ⟨n, hn⟩ := t; subst ht; rfl

/-- The ranked sums at a later point: the block's share added to what the point before left. -/
theorem accHv_later (c : Dev nD) (t : Fin cfg0.N) (ht : t.val ≠ 0) :
    accHv V c t.val t.isLt = nextHv (xB V c t) (wB V c t) (x2B V c t) (w2B V c t) (accHv V c (t.val - 1) (Nat.lt_of_le_of_lt (Nat.sub_le _ _) t.isLt)) := by
  obtain ⟨n, hn⟩ := t
  cases n with
  | zero => exact absurd rfl ht
  | succ n => rfl

/-- The rank column sums at the first point: the block's share. -/
theorem accSums_first (c : Dev nD) (t : Fin cfg0.N) (ht : t.val = 0) :
    accSums V c t.val t.isLt = tileSums (xB V c t) (wB V c t) (x2B V c t) (w2B V c t) := by
  obtain ⟨n, hn⟩ := t; subst ht; rfl

/-- The rank column sums at a later point: the block's share added to what the point before left. -/
theorem accSums_later (c : Dev nD) (t : Fin cfg0.N) (ht : t.val ≠ 0) :
    accSums V c t.val t.isLt = nextSums (xB V c t) (wB V c t) (x2B V c t) (w2B V c t) (accSums V c (t.val - 1) (Nat.lt_of_le_of_lt (Nat.sub_le _ _) t.isLt)) := by
  obtain ⟨n, hn⟩ := t
  cases n with
  | zero => exact absurd rfl ht
  | succ n => rfl

/-- The counts at the first point: the block's share. -/
theorem accCounts_first (c : Dev nD) (t : Fin cfg0.N) (ht : t.val = 0) :
    accCounts V c t.val t.isLt = tileCounts (xB V c t) (wB V c t) (x2B V c t) (w2B V c t) := by
  obtain ⟨n, hn⟩ := t; subst ht; rfl

/-- The counts at a later point: the block's share added to what the point before left. -/
theorem accCounts_later (c : Dev nD) (t : Fin cfg0.N) (ht : t.val ≠ 0) :
    accCounts V c t.val t.isLt = nextCounts (xB V c t) (wB V c t) (x2B V c t) (w2B V c t) (accCounts V c (t.val - 1) (Nat.lt_of_le_of_lt (Nat.sub_le _ _) t.isLt)) := by
  obtain ⟨n, hn⟩ := t
  cases n with
  | zero => exact absurd rfl ht
  | succ n => rfl

/-- The squared error at the first point: the block's share. -/
theorem accEsum_first (c : Dev nD) (t : Fin cfg0.N) (ht : t.val = 0) :
    accEsum V c t.val t.isLt = tileEsum (xB V c t) (wB V c t) (x2B V c t) (w2B V c t) := by
  obtain ⟨n, hn⟩ := t; subst ht; rfl

/-- The squared error at a later point: the block's share added to what the point before left. -/
theorem accEsum_later (c : Dev nD) (t : Fin cfg0.N) (ht : t.val ≠ 0) :
    accEsum V c t.val t.isLt = nextEsum (xB V c t) (wB V c t) (x2B V c t) (w2B V c t) (accEsum V c (t.val - 1) (Nat.lt_of_le_of_lt (Nat.sub_le _ _) t.isLt)) := by
  obtain ⟨n, hn⟩ := t
  cases n with
  | zero => exact absurd rfl ht
  | succ n => rfl

/-- What the body leaves in a window's buffer, no window being idle. -/
theorem leaves0 (c : Dev nD) (w : Fin cfg0.W) (t : Fin cfg0.N) :
    (dat0 V c).leavesExact w t = owns (c : Thread nD τ) ((cfg0.win w).stage (cfg0.slots t w)) fullShare ((dat0 V c).after w t) := by
  unfold Dat.leavesExact; rw [live0 w t]

set_option maxHeartbeats 1600000 in
/-- The body at any point of the first launch. -/
theorem sound0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d))
      ∗ (∃ d, owns (c : Thread nD τ) (st0_9 t) fullShare ((dat0 V c).before 9 t d)))
    ⊢ wp frame (wpE (defs₀ (F := F)) Variants.none c none) Set.univ (bodyAt0 t) (fun _ =>
    iprop((dat0 V c).Φ t.succ ∗ (dat0 V c).owesAt () t.succ
      ∗ (dat0 V c).leavesExact 0 t
      ∗ (dat0 V c).leavesExact 1 t
      ∗ (dat0 V c).leavesExact 2 t
      ∗ (dat0 V c).leavesExact 3 t
      ∗ (dat0 V c).leavesExact 4 t
      ∗ (dat0 V c).leavesExact 5 t
      ∗ (dat0 V c).leavesExact 6 t
      ∗ (dat0 V c).leavesExact 7 t
      ∗ (dat0 V c).leavesExact 8 t
      ∗ (dat0 V c).leavesExact 9 t)) := by
  unfold bodyAt0
  simp only [before0_0, before0_1, before0_2, before0_3]
  rw [show (dat0 V c).Φ t.succ = (dat0 V c).Φ t.castSucc from rfl,
    show (dat0 V c).owesAt () t.succ = (dat0 V c).owesAt () t.castSucc from rfl]
  rw [leaves0 V c 0, leaves0 V c 1, leaves0 V c 2, leaves0 V c 3, leaves0 V c 4, leaves0 V c 5, leaves0 V c 6, leaves0 V c 7, leaves0 V c 8, leaves0 V c 9]
  by_cases h0 : t.val = 0
  · dsimp only [dat0]
    rw [accHv_first V c t h0, accSums_first V c t h0, accCounts_first V c t h0, accEsum_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point_first c (grid0.coords t) _ _ _ _ _ _ _ _ _ _ _ _ _ _ _ _ _ _ _ _ ((first0 t).mpr h0) (fun h => ((later0 t).mp h) h0) (xB V c t) (wB V c t) (x2B V c t) (w2B V c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before0_6 V c t h0, before0_7 V c t h0, before0_8 V c t h0, before0_9 V c t h0]
    dsimp only [dat0]
    rw [accHv_later V c t h0, accSums_later V c t h0, accCounts_later V c t h0, accEsum_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point_later c (grid0.coords t) _ _ _ _ _ _ _ _ _ _ _ _ _ _ _ _ _ _ _ _ (fun h => h0 ((first0 t).mp h)) ((later0 t).mpr h0) (xB V c t) (wB V c t) (x2B V c t) (w2B V c t) _ _ _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The first launch's body obligation. -/
theorem body0 (c : Dev nD) : BodyObligation (dat0 V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound0 V c t) rfl .rfl fun _ => .rfl

end Cert.KernelIdeal.Own

end
-- ==== Proof.Points1.lean ====
module

public import proofs.«01_k».proof.Proof.Body1
public import proofs.«01_k».proof.Proof.Points0

@[expose] public section

/-!
# The second launch, point by point

The proof data of the second launch entered with any buffer contents `V`. The loss and the perplexity are stored at the first
point and stay in their buffers until the last point writes them back.
-/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Vals F)

/-- Window `w`'s block at point `t`, read from the entry contents. -/
abbrev blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The codes at point `t`. -/
abbrev wE (c : Dev nD) (t : Fin cfg1.N) : Vec F S1024x256 .f32 := blk1 V c 0 t
/-- Their rows of `encᵀ·x`. -/
abbrev hvE (c : Dev nD) (t : Fin cfg1.N) : Vec F S1024x256 .f32 := blk1 V c 1 t
/-- Their rank column sums. -/
abbrev sE (c : Dev nD) (t : Fin cfg1.N) : Vec F S1024x1 .f32 := blk1 V c 2 t
/-- The nearest-code column sums. -/
abbrev countsE (c : Dev nD) (t : Fin cfg1.N) : Vec F S1x8192 .f32 := blk1 V c 3 t
/-- The squared error. -/
abbrev esumE (c : Dev nD) (t : Fin cfg1.N) : Vec F S1x1 .f32 := blk1 V c 4 t
/-- The first point. -/
abbrev p0 : Fin cfg1.N := ⟨0, by rw [show cfg1.N = 8 from N_1]; decide⟩

/-- The second launch's proof data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => k1_pay1 (wE V c t) (sE V c t) (hvE V c t)
    | ⟨6, _⟩ => k1_pay2 (wE V c t) (sE V c t) (hvE V c t)
    | ⟨7, _⟩ => k1_pay3 (esumE V c p0)
    | ⟨8, _⟩ => k1_pay4 (countsE V c p0)
  Φ _ := Pipeline.scopedRest (Ix := Unit) (Name := ℕ) (U := UR sig nD τ) (Lvl := ℕ) (Val := Elt F) spec1 c
  q _ := fullShare
  owed _ := 0

/-- The `scf.if` is taken at the first point only. -/
theorem first1 (t : Fin cfg1.N) : k1_cond1 (grid1.coords t) = 1#1 ↔ t.val = 0 :=
  (by decide +kernel : ∀ t : Fin grid1.N, k1_cond1 (grid1.coords t) = 1#1 ↔ t.val = 0) t

/-- The windows of the blocks are never idle. -/
theorem live1 (w : Fin cfg1.W) (hw : w.val < 7) (t : Fin cfg1.N) : cfg1.idle w (cfg1.grid.coords t) = false :=
  (by decide +kernel : ∀ (w : Fin 9) (_ : w.val < 7) (t : Fin grid1.N), idle1 w (grid1.coords t) = false) w hw t

/-- The two scalars' windows are idle exactly after the first point. -/
theorem idle1_scalar (w : Fin cfg1.W) (hw : 7 ≤ w.val) (t : Fin cfg1.N) : cfg1.idle w (cfg1.grid.coords t) = decide (t.val ≠ 0) :=
  (by decide +kernel : ∀ (w : Fin 9) (_ : 7 ≤ w.val) (t : Fin grid1.N), idle1 w (grid1.coords t) = decide (t.val ≠ 0)) w hw t

/-- Input 0's staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl) (fun t => rfl) t d).trans rfl

/-- Input 1's staging buffer holds its block at every point. -/
theorem before1_1 (c : Dev nD) (t : Fin cfg1.N) (d) : (dat1 V c).before 1 t d = blk1 V c 1 t :=
  ((dat1 V c).before_in_eq_fetched 1 rfl (fun _ => rfl) (fun _ _ _ => rfl) (fun t => rfl) t d).trans rfl

/-- Input 2's staging buffer holds its block at every point. -/
theorem before1_2 (c : Dev nD) (t : Fin cfg1.N) (d) : (dat1 V c).before 2 t d = blk1 V c 2 t :=
  ((dat1 V c).before_in_eq_fetched 2 rfl (fun _ => rfl) (fun _ _ _ => rfl) (fun t => rfl) t d).trans rfl

/-- Input 3's staging buffer holds its block at every point. -/
theorem before1_3 (c : Dev nD) (t : Fin cfg1.N) (d) : (dat1 V c).before 3 t d = blk1 V c 3 t :=
  ((dat1 V c).before_in_eq_fetched 3 rfl (fun _ => rfl) (fun _ _ _ => rfl) (fun t => rfl) t d).trans rfl

/-- Input 4's staging buffer holds its block at every point. -/
theorem before1_4 (c : Dev nD) (t : Fin cfg1.N) (d) : (dat1 V c).before 4 t d = blk1 V c 4 t :=
  ((dat1 V c).before_in_eq_fetched 4 rfl (fun _ => rfl) (fun _ _ _ => rfl) (fun t => rfl) t d).trans rfl

/-- After the first point a scalar's buffer is no longer fresh. -/
theorem notFresh1 (w : Fin cfg1.W) (hw : 7 ≤ w.val) (hf : ∀ t : Fin cfg1.N, (cfg1.win w).flush t = true → t.val = 7) :
    ∀ n, n ≠ 0 → n ≤ 7 → cfg1.fresh w n = false
  | 0, h, _ => absurd rfl h
  | n + 1, _, hn => by
    have hN : cfg1.N = 8 := N_1
    have hG : cfg1.grid.N = 8 := N_1
    have hn' : (cfg1.win w).flush ⟨n, by omega⟩ = false :=
      Bool.eq_false_iff.mpr fun h => by have := hf _ h; simp only at this; omega
    rw [Cfg.fresh_succ cfg1 w n (by omega), hn']
    rw [idle1_scalar w hw]
    by_cases h0 : n = 0
    · subst h0; rfl
    · rw [notFresh1 w hw hf n h0 (by omega)]; simp

/-- After the first point a scalar's buffer holds the scalar. -/
theorem carried1 (c : Dev nD) (w : Fin cfg1.W) (hout : (cfg1.win w).isOut = true) (hclip : ∀ (i : cfg1.grid.Coords) a, (cfg1.win w).clip i a = none)
    (hw : 7 ≤ w.val) (hf : ∀ t : Fin cfg1.N, (cfg1.win w).flush t = true → t.val = 7)
    (hc : ∀ t t' : Fin cfg1.N, (dat1 V c).after w t = (dat1 V c).after w t')
    (t : Fin cfg1.N) (ht : t.val ≠ 0) (d) : (dat1 V c).before w t d = (dat1 V c).after w t := by
  have h := t.isLt; have hN : cfg1.N = 8 := N_1
  rw [Dat.before_out_traj _ w hout hclip (fun t _ _ _ => hc _ _) t.val t rfl d, if_neg]
  · exact hc _ _
  · rw [notFresh1 w hw hf t.val ht (by omega)]; decide

/-- What the body leaves in a block window's buffer. -/
theorem leaves1 (c : Dev nD) (w : Fin cfg1.W) (hw : w.val < 7) (t : Fin cfg1.N) :
    (dat1 V c).leavesExact w t = owns (c : Thread nD τ) ((cfg1.win w).stage (cfg1.slots t w)) fullShare ((dat1 V c).after w t) := by
  unfold Dat.leavesExact; rw [live1 w hw t]

/-- The first point leaves a scalar's buffer at the scalar. -/
theorem leaves1_first (c : Dev nD) (w : Fin cfg1.W) (hw : 7 ≤ w.val) (t : Fin cfg1.N) (ht : t.val = 0) :
    (dat1 V c).leavesExact w t = owns (c : Thread nD τ) ((cfg1.win w).stage (cfg1.slots t w)) fullShare ((dat1 V c).after w t) := by
  unfold Dat.leavesExact; rw [idle1_scalar w hw t, ht]; rfl

/-- A later point may leave a scalar's buffer at the scalar: either it writes it back, or it found it there. -/
theorem leaves1_later (c : Dev nD) (w : Fin cfg1.W) (hw : 7 ≤ w.val) (t : Fin cfg1.N) (ht : t.val ≠ 0)
    (hb : ∀ d, (dat1 V c).before w t d = (dat1 V c).after w t) :
    owns (c : Thread nD τ) ((cfg1.win w).stage (cfg1.slots t w)) fullShare ((dat1 V c).after w t) ⊢ (dat1 V c).leavesExact w t := by
  unfold Dat.leavesExact; rw [idle1_scalar w hw t, show decide (t.val ≠ 0) = true from decide_eq_true ht]
  cases h : (cfg1.win w).flush t
  · simp only [hb]
    iintro H; iexists (fun _ => Classical.arbitrary _); iexact H
  · exact .rfl

set_option maxHeartbeats 1600000 in
/-- The body at any point of the second launch. -/
theorem sound1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d))
      ∗ (∃ d, owns (c : Thread nD τ) (st1_8 t) fullShare ((dat1 V c).before 8 t d)))
    ⊢ wp frame (wpE (defs₀ (F := F)) Variants.none c none) Set.univ (bodyAt1 t) (fun _ =>
    iprop((dat1 V c).Φ t.succ ∗ (dat1 V c).owesAt () t.succ
      ∗ (dat1 V c).leavesExact 0 t
      ∗ (dat1 V c).leavesExact 1 t
      ∗ (dat1 V c).leavesExact 2 t
      ∗ (dat1 V c).leavesExact 3 t
      ∗ (dat1 V c).leavesExact 4 t
      ∗ (dat1 V c).leavesExact 5 t
      ∗ (dat1 V c).leavesExact 6 t
      ∗ (dat1 V c).leavesExact 7 t
      ∗ (dat1 V c).leavesExact 8 t)) := by
  unfold bodyAt1
  have h8 := t.isLt
  have hN : cfg1.N = 8 := N_1
  have hf7 : ∀ t : Fin cfg1.N, (cfg1.win 7).flush t = true → t.val = 7 := fun t h => by
    have := (flush1_7 t).mp h; have := t.isLt; omega
  have hf8 : ∀ t : Fin cfg1.N, (cfg1.win 8).flush t = true → t.val = 7 := fun t h => by
    have := (flush1_8 t).mp h; have := t.isLt; omega
  simp only [before1_0, before1_1, before1_2, before1_3, before1_4]
  rw [show (dat1 V c).Φ t.succ = (dat1 V c).Φ t.castSucc from rfl,
    show (dat1 V c).owesAt () t.succ = (dat1 V c).owesAt () t.castSucc from rfl]
  rw [leaves1 V c 0 (by decide), leaves1 V c 1 (by decide), leaves1 V c 2 (by decide), leaves1 V c 3 (by decide), leaves1 V c 4 (by decide), leaves1 V c 5 (by decide), leaves1 V c 6 (by decide)]
  by_cases h0 : t.val = 0
  · rw [leaves1_first V c 7 (by decide) t h0, leaves1_first V c 8 (by decide) t h0]
    obtain rfl : t = p0 := Fin.ext h0
    dsimp only [dat1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (epi_first c (grid1.coords p0) _ _ _ _ _ _ _ _ _ _ _ _ _ _ _ _ _ _ ((first1 p0).mpr rfl) (wE V c p0) (hvE V c p0) (sE V c p0) (countsE V c p0) (esumE V c p0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hb7 := carried1 V c 7 rfl (fun _ _ => rfl) (by decide) hf7 (fun _ _ => rfl) t h0
    have hb8 := carried1 V c 8 rfl (fun _ _ => rfl) (by decide) hf8 (fun _ _ => rfl) t h0
    have hl7 := leaves1_later V c 7 (by decide) t h0 hb7
    have hl8 := leaves1_later V c 8 (by decide) t h0 hb8
    simp only [hb7, hb8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (epi_later c (grid1.coords t) _ _ _ _ _ _ _ _ _ _ _ _ _ _ _ _ _ _ (fun h => h0 ((first1 t).mp h)) (wE V c t) (hvE V c t) (sE V c t) (countsE V c t) (esumE V c t) ((dat1 V c).after 7 t) ((dat1 V c).after 8 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply hl7; iexact H7
    iapply hl8; iexact H8

/-- The second launch's body obligation. -/
theorem body1 (c : Dev nD) : BodyObligation (dat1 V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound1 V c t) rfl .rfl fun _ => .rfl

end Cert.KernelIdeal.Own

end
-- ==== Proof.Outs.lean ====
module

public import proofs.«01_k».proof.Proof.Points1
public import proofs.«01_k».proof.Proof.Gen.KernelIdeal.Regions

@[expose] public section

/-!
# What the two launches leave, as valuations

The buffers' contents between the items are the valuations `V1 … V5` of the program's conditional frame, taken at what the two
launches' proof data say their arrays end with.
-/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents the first launch is entered with. -/
abbrev E1 : Vals F := fun c b => V1 m c b

/-- A valuation changed at the six results of the first launch. -/
def six (c : Dev nD) (V : Valuation τ sig (Elt F)) (x0 : Buf (Elt F) ((c : Thread nD τ).loc main_v6_0)) (x1 : Buf (Elt F) ((c : Thread nD τ).loc main_v6_1)) (x2 : Buf (Elt F) ((c : Thread nD τ).loc main_v6_2)) (x3 : Buf (Elt F) ((c : Thread nD τ).loc main_v6_3)) (x4 : Buf (Elt F) ((c : Thread nD τ).loc main_v6_4)) (x5 : Buf (Elt F) ((c : Thread nD τ).loc main_v6_5)) :
    Valuation τ sig (Elt F) :=
  Function.update (Function.update (Function.update (Function.update (Function.update (Function.update V main_v6_0 x0) main_v6_1 x1) main_v6_2 x2) main_v6_3 x3) main_v6_4 x4) main_v6_5 x5

/-- Result 0 of the first launch is read back. -/
theorem six_0 (c : Dev nD) (V : Valuation τ sig (Elt F)) (x0 : Buf (Elt F) ((c : Thread nD τ).loc main_v6_0)) (x1 : Buf (Elt F) ((c : Thread nD τ).loc main_v6_1)) (x2 : Buf (Elt F) ((c : Thread nD τ).loc main_v6_2)) (x3 : Buf (Elt F) ((c : Thread nD τ).loc main_v6_3)) (x4 : Buf (Elt F) ((c : Thread nD τ).loc main_v6_4)) (x5 : Buf (Elt F) ((c : Thread nD τ).loc main_v6_5)) :
    six c V x0 x1 x2 x3 x4 x5 main_v6_0 = x0 := by
  unfold six
  rw [Function.update_of_ne (show (Proc.devRef .tc main_v6_0 : DevRef τ sig) ≠ Proc.devRef .tc main_v6_5 from StableHlo.devRef_ne_of_ne (by decide))]
  rw [Function.update_of_ne (show (Proc.devRef .tc main_v6_0 : DevRef τ sig) ≠ Proc.devRef .tc main_v6_4 from StableHlo.devRef_ne_of_ne (by decide))]
  rw [Function.update_of_ne (show (Proc.devRef .tc main_v6_0 : DevRef τ sig) ≠ Proc.devRef .tc main_v6_3 from StableHlo.devRef_ne_of_ne (by decide))]
  rw [Function.update_of_ne (show (Proc.devRef .tc main_v6_0 : DevRef τ sig) ≠ Proc.devRef .tc main_v6_2 from StableHlo.devRef_ne_of_ne (by decide))]
  rw [Function.update_of_ne (show (Proc.devRef .tc main_v6_0 : DevRef τ sig) ≠ Proc.devRef .tc main_v6_1 from StableHlo.devRef_ne_of_ne (by decide))]
  rw [Function.update_self]
/-- Result 1 of the first launch is read back. -/
theorem six_1 (c : Dev nD) (V : Valuation τ sig (Elt F)) (x0 : Buf (Elt F) ((c : Thread nD τ).loc main_v6_0)) (x1 : Buf (Elt F) ((c : Thread nD τ).loc main_v6_1)) (x2 : Buf (Elt F) ((c : Thread nD τ).loc main_v6_2)) (x3 : Buf (Elt F) ((c : Thread nD τ).loc main_v6_3)) (x4 : Buf (Elt F) ((c : Thread nD τ).loc main_v6_4)) (x5 : Buf (Elt F) ((c : Thread nD τ).loc main_v6_5)) :
    six c V x0 x1 x2 x3 x4 x5 main_v6_1 = x1 := by
  unfold six
  rw [Function.update_of_ne (show (Proc.devRef .tc main_v6_1 : DevRef τ sig) ≠ Proc.devRef .tc main_v6_5 from StableHlo.devRef_ne_of_ne (by decide))]
  rw [Function.update_of_ne (show (Proc.devRef .tc main_v6_1 : DevRef τ sig) ≠ Proc.devRef .tc main_v6_4 from StableHlo.devRef_ne_of_ne (by decide))]
  rw [Function.update_of_ne (show (Proc.devRef .tc main_v6_1 : DevRef τ sig) ≠ Proc.devRef .tc main_v6_3 from StableHlo.devRef_ne_of_ne (by decide))]
  rw [Function.update_of_ne (show (Proc.devRef .tc main_v6_1 : DevRef τ sig) ≠ Proc.devRef .tc main_v6_2 from StableHlo.devRef_ne_of_ne (by decide))]
  rw [Function.update_self]
/-- Result 2 of the first launch is read back. -/
theorem six_2 (c : Dev nD) (V : Valuation τ sig (Elt F)) (x0 : Buf (Elt F) ((c : Thread nD τ).loc main_v6_0)) (x1 : Buf (Elt F) ((c : Thread nD τ).loc main_v6_1)) (x2 : Buf (Elt F) ((c : Thread nD τ).loc main_v6_2)) (x3 : Buf (Elt F) ((c : Thread nD τ).loc main_v6_3)) (x4 : Buf (Elt F) ((c : Thread nD τ).loc main_v6_4)) (x5 : Buf (Elt F) ((c : Thread nD τ).loc main_v6_5)) :
    six c V x0 x1 x2 x3 x4 x5 main_v6_2 = x2 := by
  unfold six
  rw [Function.update_of_ne (show (Proc.devRef .tc main_v6_2 : DevRef τ sig) ≠ Proc.devRef .tc main_v6_5 from StableHlo.devRef_ne_of_ne (by decide))]
  rw [Function.update_of_ne (show (Proc.devRef .tc main_v6_2 : DevRef τ sig) ≠ Proc.devRef .tc main_v6_4 from StableHlo.devRef_ne_of_ne (by decide))]
  rw [Function.update_of_ne (show (Proc.devRef .tc main_v6_2 : DevRef τ sig) ≠ Proc.devRef .tc main_v6_3 from StableHlo.devRef_ne_of_ne (by decide))]
  rw [Function.update_self]
/-- Result 3 of the first launch is read back. -/
theorem six_3 (c : Dev nD) (V : Valuation τ sig (Elt F)) (x0 : Buf (Elt F) ((c : Thread nD τ).loc main_v6_0)) (x1 : Buf (Elt F) ((c : Thread nD τ).loc main_v6_1)) (x2 : Buf (Elt F) ((c : Thread nD τ).loc main_v6_2)) (x3 : Buf (Elt F) ((c : Thread nD τ).loc main_v6_3)) (x4 : Buf (Elt F) ((c : Thread nD τ).loc main_v6_4)) (x5 : Buf (Elt F) ((c : Thread nD τ).loc main_v6_5)) :
    six c V x0 x1 x2 x3 x4 x5 main_v6_3 = x3 := by
  unfold six
  rw [Function.update_of_ne (show (Proc.devRef .tc main_v6_3 : DevRef τ sig) ≠ Proc.devRef .tc main_v6_5 from StableHlo.devRef_ne_of_ne (by decide))]
  rw [Function.update_of_ne (show (Proc.devRef .tc main_v6_3 : DevRef τ sig) ≠ Proc.devRef .tc main_v6_4 from StableHlo.devRef_ne_of_ne (by decide))]
  rw [Function.update_self]
/-- Result 4 of the first launch is read back. -/
theorem six_4 (c : Dev nD) (V : Valuation τ sig (Elt F)) (x0 : Buf (Elt F) ((c : Thread nD τ).loc main_v6_0)) (x1 : Buf (Elt F) ((c : Thread nD τ).loc main_v6_1)) (x2 : Buf (Elt F) ((c : Thread nD τ).loc main_v6_2)) (x3 : Buf (Elt F) ((c : Thread nD τ).loc main_v6_3)) (x4 : Buf (Elt F) ((c : Thread nD τ).loc main_v6_4)) (x5 : Buf (Elt F) ((c : Thread nD τ).loc main_v6_5)) :
    six c V x0 x1 x2 x3 x4 x5 main_v6_4 = x4 := by
  unfold six
  rw [Function.update_of_ne (show (Proc.devRef .tc main_v6_4 : DevRef τ sig) ≠ Proc.devRef .tc main_v6_5 from StableHlo.devRef_ne_of_ne (by decide))]
  rw [Function.update_self]
/-- Result 5 of the first launch is read back. -/
theorem six_5 (c : Dev nD) (V : Valuation τ sig (Elt F)) (x0 : Buf (Elt F) ((c : Thread nD τ).loc main_v6_0)) (x1 : Buf (Elt F) ((c : Thread nD τ).loc main_v6_1)) (x2 : Buf (Elt F) ((c : Thread nD τ).loc main_v6_2)) (x3 : Buf (Elt F) ((c : Thread nD τ).loc main_v6_3)) (x4 : Buf (Elt F) ((c : Thread nD τ).loc main_v6_4)) (x5 : Buf (Elt F) ((c : Thread nD τ).loc main_v6_5)) :
    six c V x0 x1 x2 x3 x4 x5 main_v6_5 = x5 := by
  unfold six
  rw [Function.update_self]

/-- A valuation changed at the four results of the second launch. -/
def four (c : Dev nD) (V : Valuation τ sig (Elt F)) (x0 : Buf (Elt F) ((c : Thread nD τ).loc main_v8_0)) (x1 : Buf (Elt F) ((c : Thread nD τ).loc main_v8_1)) (x2 : Buf (Elt F) ((c : Thread nD τ).loc main_v8_2)) (x3 : Buf (Elt F) ((c : Thread nD τ).loc main_v8_3)) :
    Valuation τ sig (Elt F) :=
  Function.update (Function.update (Function.update (Function.update V main_v8_0 x0) main_v8_1 x1) main_v8_2 x2) main_v8_3 x3

/-- Result 0 of the second launch is read back. -/
theorem four_0 (c : Dev nD) (V : Valuation τ sig (Elt F)) (x0 : Buf (Elt F) ((c : Thread nD τ).loc main_v8_0)) (x1 : Buf (Elt F) ((c : Thread nD τ).loc main_v8_1)) (x2 : Buf (Elt F) ((c : Thread nD τ).loc main_v8_2)) (x3 : Buf (Elt F) ((c : Thread nD τ).loc main_v8_3)) :
    four c V x0 x1 x2 x3 main_v8_0 = x0 := by
  unfold four
  rw [Function.update_of_ne (show (Proc.devRef .tc main_v8_0 : DevRef τ sig) ≠ Proc.devRef .tc main_v8_3 from StableHlo.devRef_ne_of_ne (by decide))]
  rw [Function.update_of_ne (show (Proc.devRef .tc main_v8_0 : DevRef τ sig) ≠ Proc.devRef .tc main_v8_2 from StableHlo.devRef_ne_of_ne (by decide))]
  rw [Function.update_of_ne (show (Proc.devRef .tc main_v8_0 : DevRef τ sig) ≠ Proc.devRef .tc main_v8_1 from StableHlo.devRef_ne_of_ne (by decide))]
  rw [Function.update_self]
/-- Result 1 of the second launch is read back. -/
theorem four_1 (c : Dev nD) (V : Valuation τ sig (Elt F)) (x0 : Buf (Elt F) ((c : Thread nD τ).loc main_v8_0)) (x1 : Buf (Elt F) ((c : Thread nD τ).loc main_v8_1)) (x2 : Buf (Elt F) ((c : Thread nD τ).loc main_v8_2)) (x3 : Buf (Elt F) ((c : Thread nD τ).loc main_v8_3)) :
    four c V x0 x1 x2 x3 main_v8_1 = x1 := by
  unfold four
  rw [Function.update_of_ne (show (Proc.devRef .tc main_v8_1 : DevRef τ sig) ≠ Proc.devRef .tc main_v8_3 from StableHlo.devRef_ne_of_ne (by decide))]
  rw [Function.update_of_ne (show (Proc.devRef .tc main_v8_1 : DevRef τ sig) ≠ Proc.devRef .tc main_v8_2 from StableHlo.devRef_ne_of_ne (by decide))]
  rw [Function.update_self]
/-- Result 2 of the second launch is read back. -/
theorem four_2 (c : Dev nD) (V : Valuation τ sig (Elt F)) (x0 : Buf (Elt F) ((c : Thread nD τ).loc main_v8_0)) (x1 : Buf (Elt F) ((c : Thread nD τ).loc main_v8_1)) (x2 : Buf (Elt F) ((c : Thread nD τ).loc main_v8_2)) (x3 : Buf (Elt F) ((c : Thread nD τ).loc main_v8_3)) :
    four c V x0 x1 x2 x3 main_v8_2 = x2 := by
  unfold four
  rw [Function.update_of_ne (show (Proc.devRef .tc main_v8_2 : DevRef τ sig) ≠ Proc.devRef .tc main_v8_3 from StableHlo.devRef_ne_of_ne (by decide))]
  rw [Function.update_self]
/-- Result 3 of the second launch is read back. -/
theorem four_3 (c : Dev nD) (V : Valuation τ sig (Elt F)) (x0 : Buf (Elt F) ((c : Thread nD τ).loc main_v8_0)) (x1 : Buf (Elt F) ((c : Thread nD τ).loc main_v8_1)) (x2 : Buf (Elt F) ((c : Thread nD τ).loc main_v8_2)) (x3 : Buf (Elt F) ((c : Thread nD τ).loc main_v8_3)) :
    four c V x0 x1 x2 x3 main_v8_3 = x3 := by
  unfold four
  rw [Function.update_self]

/-- The contents the first launch leaves, as one valuation. -/
def left0 (c : Dev nD) : Valuation τ sig (Elt F) :=
  six c (V1 m c) ((dat0 (E1 m) c).arrAt 4 cfg0.N) ((dat0 (E1 m) c).arrAt 5 cfg0.N) ((dat0 (E1 m) c).arrAt 6 cfg0.N) ((dat0 (E1 m) c).arrAt 7 cfg0.N) ((dat0 (E1 m) c).arrAt 8 cfg0.N) ((dat0 (E1 m) c).arrAt 9 cfg0.N)

/-- The contents the second launch is entered with. -/
abbrev E3 : Vals F := fun c b => StableHlo.after hostOps1 (left0 m c) b

/-- The contents the second launch leaves, as one valuation. -/
def left1 (c : Dev nD) : Valuation τ sig (Elt F) :=
  four c (StableHlo.after hostOps1 (left0 m c)) ((dat1 (E3 m) c).arrAt 5 cfg1.N) ((dat1 (E3 m) c).arrAt 6 cfg1.N) ((dat1 (E3 m) c).arrAt 7 cfg1.N) ((dat1 (E3 m) c).arrAt 8 cfg1.N)

/-- What both launches leave. -/
def outs : Outs (F := F) := fun J r c => match J with
  | 2 => left0 m c r
  | _ => left1 m c r

/-- What the first launch leaves in window 4's array. -/
theorem left0_4 (c : Dev nD) : left0 m c main_v6_0 = (dat0 (E1 m) c).arrAt 4 cfg0.N := six_0 _ _ _ _ _ _ _ _
/-- What the first launch leaves in window 5's array. -/
theorem left0_5 (c : Dev nD) : left0 m c main_v6_1 = (dat0 (E1 m) c).arrAt 5 cfg0.N := six_1 _ _ _ _ _ _ _ _
/-- What the first launch leaves in window 6's array. -/
theorem left0_6 (c : Dev nD) : left0 m c main_v6_2 = (dat0 (E1 m) c).arrAt 6 cfg0.N := six_2 _ _ _ _ _ _ _ _
/-- What the first launch leaves in window 7's array. -/
theorem left0_7 (c : Dev nD) : left0 m c main_v6_3 = (dat0 (E1 m) c).arrAt 7 cfg0.N := six_3 _ _ _ _ _ _ _ _
/-- What the first launch leaves in window 8's array. -/
theorem left0_8 (c : Dev nD) : left0 m c main_v6_4 = (dat0 (E1 m) c).arrAt 8 cfg0.N := six_4 _ _ _ _ _ _ _ _
/-- What the first launch leaves in window 9's array. -/
theorem left0_9 (c : Dev nD) : left0 m c main_v6_5 = (dat0 (E1 m) c).arrAt 9 cfg0.N := six_5 _ _ _ _ _ _ _ _
/-- What the second launch leaves in window 5's array. -/
theorem left1_5 (c : Dev nD) : left1 m c main_v8_0 = (dat1 (E3 m) c).arrAt 5 cfg1.N := four_0 _ _ _ _ _ _
/-- What the second launch leaves in window 6's array. -/
theorem left1_6 (c : Dev nD) : left1 m c main_v8_1 = (dat1 (E3 m) c).arrAt 6 cfg1.N := four_1 _ _ _ _ _ _
/-- What the second launch leaves in window 7's array. -/
theorem left1_7 (c : Dev nD) : left1 m c main_v8_2 = (dat1 (E3 m) c).arrAt 7 cfg1.N := four_2 _ _ _ _ _ _
/-- What the second launch leaves in window 8's array. -/
theorem left1_8 (c : Dev nD) : left1 m c main_v8_3 = (dat1 (E3 m) c).arrAt 8 cfg1.N := four_3 _ _ _ _ _ _

/-- Equal results give equal valuations, first launch. -/
theorem six_congr (c : Dev nD) (V : Valuation τ sig (Elt F)) {x0 y0 : Buf (Elt F) ((c : Thread nD τ).loc main_v6_0)} {x1 y1 : Buf (Elt F) ((c : Thread nD τ).loc main_v6_1)} {x2 y2 : Buf (Elt F) ((c : Thread nD τ).loc main_v6_2)} {x3 y3 : Buf (Elt F) ((c : Thread nD τ).loc main_v6_3)} {x4 y4 : Buf (Elt F) ((c : Thread nD τ).loc main_v6_4)} {x5 y5 : Buf (Elt F) ((c : Thread nD τ).loc main_v6_5)}
    (h0 : x0 = y0) (h1 : x1 = y1) (h2 : x2 = y2) (h3 : x3 = y3) (h4 : x4 = y4) (h5 : x5 = y5) :
    six c V x0 x1 x2 x3 x4 x5 = six c V y0 y1 y2 y3 y4 y5 := by
  subst h0
  subst h1
  subst h2
  subst h3
  subst h4
  subst h5
  rfl

/-- Equal results give equal valuations, second launch. -/
theorem four_congr (c : Dev nD) (V : Valuation τ sig (Elt F)) {x0 y0 : Buf (Elt F) ((c : Thread nD τ).loc main_v8_0)} {x1 y1 : Buf (Elt F) ((c : Thread nD τ).loc main_v8_1)} {x2 y2 : Buf (Elt F) ((c : Thread nD τ).loc main_v8_2)} {x3 y3 : Buf (Elt F) ((c : Thread nD τ).loc main_v8_3)}
    (h0 : x0 = y0) (h1 : x1 = y1) (h2 : x2 = y2) (h3 : x3 = y3) :
    four c V x0 x1 x2 x3 = four c V y0 y1 y2 y3 := by
  subst h0
  subst h1
  subst h2
  subst h3
  rfl

/-- What `outs` says of the first launch. -/
theorem outs_2 (r : Ref sig .tc) (c : Dev nD) : outs m 2 r c = left0 m c r := rfl
/-- What `outs` says of the second launch. -/
theorem outs_4 (r : Ref sig .tc) (c : Dev nD) : outs m 4 r c = left1 m c r := rfl

/-- The contents after the first launch, as one change of six results. -/
theorem V2_six (o : Outs (F := F)) (c : Dev nD) : V2 m o c = six c (V1 m c) (o 2 main_v6_0 c) (o 2 main_v6_1 c) (o 2 main_v6_2 c)
    (o 2 main_v6_3 c) (o 2 main_v6_4 c) (o 2 main_v6_5 c) := rfl
/-- The contents after the second launch, as one change of four results. -/
theorem V4_four (o : Outs (F := F)) (c : Dev nD) : V4 m o c = four c (V3 m o c) (o 4 main_v8_0 c) (o 4 main_v8_1 c) (o 4 main_v8_2 c)
    (o 4 main_v8_3 c) := rfl
/-- The program's valuation after the first launch is `left0`. -/
theorem V2_eq (c : Dev nD) : V2 m (outs m) c = left0 m c := by
  refine (V2_six m (outs m) c).trans ?_
  unfold left0
  exact six_congr c (V1 m c) ((outs_2 m _ c).trans (left0_4 m c)) ((outs_2 m _ c).trans (left0_5 m c)) ((outs_2 m _ c).trans (left0_6 m c))
    ((outs_2 m _ c).trans (left0_7 m c)) ((outs_2 m _ c).trans (left0_8 m c)) ((outs_2 m _ c).trans (left0_9 m c))
/-- The program's valuation before the second launch. -/
theorem V3_eq (c : Dev nD) : V3 m (outs m) c = StableHlo.after hostOps1 (left0 m c) :=
  congrArg (StableHlo.after hostOps1) (V2_eq m c)

/-- The program's valuation after the second launch is `left1`. -/
theorem V4_eq (c : Dev nD) : V4 m (outs m) c = left1 m c := by
  refine (V4_four m (outs m) c).trans ?_
  rw [V3_eq]
  unfold left1
  exact four_congr c _ ((outs_4 m _ c).trans (left1_5 m c)) ((outs_4 m _ c).trans (left1_6 m c)) ((outs_4 m _ c).trans (left1_7 m c))
    ((outs_4 m _ c).trans (left1_8 m c))

/-- The two launches' proof data. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

/-- No core owes another anything: no level is assigned. -/
abbrev L : GSem nD τ sig → Finset Unit := fun _ => ∅
abbrev lv : GSem nD τ sig → Unit → ℕ := fun _ _ => 0

/-- What rides along between the items: the core owes nothing. -/
abbrev Rest (c : Dev nD) : sProp 𝕄 := iprop(∃ W, owes (c : Thread nD τ) (0 : CellTallies nD τ sig Unit) W)

end Cert.KernelIdeal.Own

end
-- ==== Proof.Region0.lean ====
module

public import proofs.«01_k».proof.Proof.Outs
public import Idealize.ShloMosaic.Lib.Pipeline.RegionsLoop

@[expose] public section

/-!
# The first launch over the program's thread state
-/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The first launch over the program's thread state. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body0 (E1 m) c).loose
  hwaits := Pipeline.hwaits_of_owed_zero _ _ _ _ L lv 0 fun _ _ => rfl
  pre c := iprop(unscopedBufs c (E1 m c) ∗ Rest c)
  post c := iprop(unscopedBufs c (fun b => left0 m c b) ∗ Rest c)
  X _ := BI.emp
  Y _ := BI.emp
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hne : ∀ b : Ref sig .tc, b ∉ ([main_v6_0, main_v6_1, main_v6_2, main_v6_3, main_v6_4, main_v6_5] : List (Ref sig .tc)) →
        left0 m c b = V1 m c b := fun b hb =>
          (congrFun (V2_eq m c) _).symm.trans (V2_of m (outs m) c b hb)
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (E1 m c) (fun b => left0 m c b) ((pdats m 0 c).arrAt · cfg0.N)
      (fun w => by
        fin_cases w
        · exact ((dat0 (E1 m) c).arrAt_in 0 rfl _).trans (hne main_arg0 (by decide)).symm
        · exact ((dat0 (E1 m) c).arrAt_in 1 rfl _).trans (hne main_arg1 (by decide)).symm
        · exact ((dat0 (E1 m) c).arrAt_in 2 rfl _).trans (hne main_v2 (by decide)).symm
        · exact ((dat0 (E1 m) c).arrAt_in 3 rfl _).trans (hne main_v5 (by decide)).symm
        · exact (left0_4 m c).symm
        · exact (left0_5 m c).symm
        · exact (left0_6 m c).symm
        · exact (left0_7 m c).symm
        · exact (left0_8 m c).symm
        · exact (left0_9 m c).symm)
      (fun b hb => hne b fun h => hb (by
        simp only [List.mem_cons, List.not_mem_nil, or_false] at h
        rcases h with h | h | h | h | h | h <;> subst h
        · exact Finset.mem_image.mpr ⟨4, Finset.mem_univ _, rfl⟩
        · exact Finset.mem_image.mpr ⟨5, Finset.mem_univ _, rfl⟩
        · exact Finset.mem_image.mpr ⟨6, Finset.mem_univ _, rfl⟩
        · exact Finset.mem_image.mpr ⟨7, Finset.mem_univ _, rfl⟩
        · exact Finset.mem_image.mpr ⟨8, Finset.mem_univ _, rfl⟩
        · exact Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Own

end
-- ==== Proof.Region1.lean ====
module

public import proofs.«01_k».proof.Proof.Outs
public import Idealize.ShloMosaic.Lib.Pipeline.RegionsLoop

@[expose] public section

/-!
# The second launch over the program's thread state
-/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
set_option backward.isDefEq.respectTransparency.types false in
/-- The second launch over the program's thread state. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body1 (E3 m) c).loose
  hwaits := Pipeline.hwaits_of_owed_zero _ _ _ _ L lv 1 fun _ _ => rfl
  pre c := iprop(unscopedBufs c (E3 m c) ∗ Rest c)
  post c := iprop(unscopedBufs c (fun b => left1 m c b) ∗ Rest c)
  X _ := BI.emp
  Y _ := BI.emp
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hne : ∀ b : Ref sig .tc, b ∉ ([main_v8_0, main_v8_1, main_v8_2, main_v8_3] : List (Ref sig .tc)) →
        left1 m c b = E3 m c b := fun b hb =>
          (congrFun (V4_eq m c) _).symm.trans ((V4_of m (outs m) c b hb).trans (congrFun (V3_eq m c) _))
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (E3 m c) (fun b => left1 m c b) ((pdats m 1 c).arrAt · cfg1.N)
      (fun w => by
        fin_cases w
        · exact ((dat1 (E3 m) c).arrAt_in 0 rfl _).trans (hne main_arg1 (by decide)).symm
        · exact ((dat1 (E3 m) c).arrAt_in 1 rfl _).trans (hne main_v6_2 (by decide)).symm
        · exact ((dat1 (E3 m) c).arrAt_in 2 rfl _).trans (hne main_v7 (by decide)).symm
        · exact ((dat1 (E3 m) c).arrAt_in 3 rfl _).trans (hne main_v6_4 (by decide)).symm
        · exact ((dat1 (E3 m) c).arrAt_in 4 rfl _).trans (hne main_v6_5 (by decide)).symm
        · exact (left1_5 m c).symm
        · exact (left1_6 m c).symm
        · exact (left1_7 m c).symm
        · exact (left1_8 m c).symm)
      (fun b hb => hne b fun h => hb (by
        simp only [List.mem_cons, List.not_mem_nil, or_false] at h
        rcases h with h | h | h | h <;> subst h
        · exact Finset.mem_image.mpr ⟨5, Finset.mem_univ _, rfl⟩
        · exact Finset.mem_image.mpr ⟨6, Finset.mem_univ _, rfl⟩
        · exact Finset.mem_image.mpr ⟨7, Finset.mem_univ _, rfl⟩
        · exact Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Own

end
-- ==== Proof.Run.lean ====
module

public import proofs.«01_k».proof.Proof.Region0
public import proofs.«01_k».proof.Proof.Region1

@[expose] public section

/-!
# The whole program runs, and what every buffer holds at the end

The two launches composed with the host stretches around them. The launch at the end gives every buffer outside the kernels'
scopes at `V5`.
-/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents every buffer ends with. -/
abbrev fin (c : Dev nD) : Valuation τ sig (Elt F) := V5 m (outs m) c

set_option backward.isDefEq.respectTransparency.types false in
/-- The program runs to its end from any memory, leaving every buffer outside the kernels' scopes at `fin` and every semaphore
    counter at zero. -/
theorem run_main : θ_run defs (onTc (τ := τ) (main (F := F))) ⟨m, fun _ => 0, ρ⟩ (fun r =>
    (∀ (c : Dev nD) (b : Ref sig .tc), ¬ (Proc.devRef .tc b : DevRef τ sig).isScoped → r.2.mem ((c.tc : Thread nD τ).loc b) = fin m c b)
      ∧ r.2.sem = fun _ => 0) := by
  refine Pipeline.θ_run_regions_kit_dev_sems (pcfgs (F := F)) adm (pdats m) () cellOf_inj emb₁ defs₀ Variants.none L lv m ρ main
    (segs m (outs m) Variants.none L lv (fun _ => Rest) () (pdats m) (reg0 m) (reg1 m))
    (fun c Q => by
      rewrite [main_chain c, Seg.run_eq_chain,
        show (segs m (outs m) Variants.none L lv (fun _ => Rest) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rest c))
    (Tₙ := fun c => StableHlo.held (c : Thread nD τ) (Pipeline.ucRefs τ sig) (fin m c))
    (hch := fun c => ⟨.rfl, ?_, ?_, ?_, ?_, sep_mono .rfl .rfl⟩)
    (hinit := ?_) (QY := fun c s => ∀ b : Ref sig .tc, ¬ (Proc.devRef .tc b : DevRef τ sig).isScoped → s.mem ((c.tc : Thread nD τ).loc b) = fin m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · exact sep_mono (by rw [← Pipeline.unscopedBufs_held (Ix := Unit) (Name := ℕ) (U := UR sig nD τ) (Lvl := ℕ) c (V1 m c)]) .rfl
  · exact sep_mono (by rw [V2_eq, ← Pipeline.unscopedBufs_held (Ix := Unit) (Name := ℕ) (U := UR sig nD τ) (Lvl := ℕ) c (left0 m c)]) .rfl
  · exact sep_mono (by rw [← Pipeline.unscopedBufs_held (Ix := Unit) (Name := ℕ) (U := UR sig nD τ) (Lvl := ℕ) c (V3 m (outs m) c), V3_eq]) .rfl
  · exact sep_mono (by rw [V4_eq, ← Pipeline.unscopedBufs_held (Ix := Unit) (Name := ℕ) (U := UR sig nD τ) (Lvl := ℕ) c (left1 m c)]) .rfl
  · have hone : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)) : sProp 𝕄)
        ⊢ iprop(unscopedBufs c (fun b => V0 m c b) ∗ Rest c) := by
      intro c
      iintro ⟨Hu, -, HO, -⟩
      isplitl [Hu]; · iexact Hu
      iexists ∅; iexact HO
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (bigSep Finset.univ fun c : Dev nD => iprop(StableHlo.held (c : Thread nD τ) (Pipeline.ucRefs τ sig) (V0 m c) ∗ Rest c)
            : sProp 𝕄) := by
      refine bigSep_mono fun c _ => ?_
      rw [← Pipeline.unscopedBufs_held (Ix := Unit) (Name := ℕ) (U := UR sig nD τ) (Lvl := ℕ) c (V0 m c)]
      exact hone c
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (fin m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, hb⟩)
    · iexact HSI

end Cert.KernelIdeal.Own

end
-- ==== Proof.KVal0.lean ====
module

public import proofs.«01_k».proof.Proof.KPay
public import proofs.«01_k».proof.Proof.Run
public import Idealize.ShloMosaic.Lib.Pipeline.ValueKit

@[expose] public section

/-!
# The arrays the first launch leaves, element by element

Where each block of a window lies in its array, the four accumulators as sums over all tokens, and so the six result arrays of
the first launch as the formulas of `Row`, for any entry contents whose blocks hold the tokens, the codes and their norms.
-/

set_option maxRecDepth 16384

noncomputable section

namespace Cert.KernelIdeal.Own

open Cert.KernelIdeal Cert.KernelIdeal.Gen
open Idealize.ShloMosaic Idealize.ShloMosaic.TcCoe
open Idealize.ShloMosaic.Pipeline (Dat Cfg Window)

/-- A token of a point's block. -/
def tok (t : Fin cfg0.N) (r : Fin 128) : Fin 9216 :=
  ⟨t.val * 128 + r.val, by have h : t.val < 72 := Nat.lt_of_lt_of_eq t.isLt N_0; have := r.isLt; omega⟩

/-- The block index of window 0. -/
theorem index0_0 : ∀ t : Fin cfg0.N, (cfg0.win 0).index t 0 = t.val ∧ (cfg0.win 0).index t 1 = 0 :=
  (by decide +kernel : ∀ t : Fin grid0.N, (win0 0).index t 0 = t.val ∧ (win0 0).index t 1 = 0)

/-- Where an index of window 0's block lies in the array. -/
theorem place0_0 (t : Fin cfg0.N) (r : Fin 128) (a : Fin 256) : ((cfg0.win 0).rect t).emb (ix2 r a) = ix2 (tok t r) a := by
  rw [eq_ix2 (((cfg0.win 0).rect t).emb (ix2 r a))]
  refine congrArg₂ ix2 (Fin.ext ?_) (Fin.ext ?_)
  · refine ((cfg0.win 0).rect_emb_val t (ix2 r a) 0).trans ?_
    rw [(index0_0 t).1]; rfl
  · refine ((cfg0.win 0).rect_emb_val t (ix2 r a) 1).trans ?_
    rw [(index0_0 t).2]; exact Nat.zero_add _

/-- The block index of window 1. -/
theorem index0_1 : ∀ t : Fin cfg0.N, (cfg0.win 1).index t 0 = 0 ∧ (cfg0.win 1).index t 1 = 0 :=
  (by decide +kernel : ∀ t : Fin grid0.N, (win0 1).index t 0 = 0 ∧ (win0 1).index t 1 = 0)

/-- Where an index of window 1's block lies in the array. -/
theorem place0_1 (t : Fin cfg0.N) (r : Fin 8192) (a : Fin 256) : ((cfg0.win 1).rect t).emb (ix2 r a) = ix2 r a := by
  rw [eq_ix2 (((cfg0.win 1).rect t).emb (ix2 r a))]
  refine congrArg₂ ix2 (Fin.ext ?_) (Fin.ext ?_)
  · refine ((cfg0.win 1).rect_emb_val t (ix2 r a) 0).trans ?_
    rw [(index0_1 t).1]; exact Nat.zero_add _
  · refine ((cfg0.win 1).rect_emb_val t (ix2 r a) 1).trans ?_
    rw [(index0_1 t).2]; exact Nat.zero_add _

/-- The block index of window 2. -/
theorem index0_2 : ∀ t : Fin cfg0.N, (cfg0.win 2).index t 0 = t.val ∧ (cfg0.win 2).index t 1 = 0 :=
  (by decide +kernel : ∀ t : Fin grid0.N, (win0 2).index t 0 = t.val ∧ (win0 2).index t 1 = 0)

/-- Where an index of window 2's block lies in the array. -/
theorem place0_2 (t : Fin cfg0.N) (r : Fin 128) (a : Fin 1) : ((cfg0.win 2).rect t).emb (ix2 r a) = ix2 (tok t r) a := by
  rw [eq_ix2 (((cfg0.win 2).rect t).emb (ix2 r a))]
  refine congrArg₂ ix2 (Fin.ext ?_) (Fin.ext ?_)
  · refine ((cfg0.win 2).rect_emb_val t (ix2 r a) 0).trans ?_
    rw [(index0_2 t).1]; rfl
  · refine ((cfg0.win 2).rect_emb_val t (ix2 r a) 1).trans ?_
    rw [(index0_2 t).2]; exact Nat.zero_add _

/-- The block index of window 3. -/
theorem index0_3 : ∀ t : Fin cfg0.N, (cfg0.win 3).index t 0 = 0 ∧ (cfg0.win 3).index t 1 = 0 :=
  (by decide +kernel : ∀ t : Fin grid0.N, (win0 3).index t 0 = 0 ∧ (win0 3).index t 1 = 0)

/-- Where an index of window 3's block lies in the array. -/
theorem place0_3 (t : Fin cfg0.N) (r : Fin 1) (a : Fin 8192) : ((cfg0.win 3).rect t).emb (ix2 r a) = ix2 r a := by
  rw [eq_ix2 (((cfg0.win 3).rect t).emb (ix2 r a))]
  refine congrArg₂ ix2 (Fin.ext ?_) (Fin.ext ?_)
  · refine ((cfg0.win 3).rect_emb_val t (ix2 r a) 0).trans ?_
    rw [(index0_3 t).1]; exact Nat.zero_add _
  · refine ((cfg0.win 3).rect_emb_val t (ix2 r a) 1).trans ?_
    rw [(index0_3 t).2]; exact Nat.zero_add _

/-- The block index of window 4. -/
theorem index0_4 : ∀ t : Fin cfg0.N, (cfg0.win 4).index t 0 = t.val ∧ (cfg0.win 4).index t 1 = 0 :=
  (by decide +kernel : ∀ t : Fin grid0.N, (win0 4).index t 0 = t.val ∧ (win0 4).index t 1 = 0)

/-- Where an index of window 4's block lies in the array. -/
theorem place0_4 (t : Fin cfg0.N) (r : Fin 128) (a : Fin 8192) : ((cfg0.win 4).rect t).emb (ix2 r a) = ix2 (tok t r) a := by
  rw [eq_ix2 (((cfg0.win 4).rect t).emb (ix2 r a))]
  refine congrArg₂ ix2 (Fin.ext ?_) (Fin.ext ?_)
  · refine ((cfg0.win 4).rect_emb_val t (ix2 r a) 0).trans ?_
    rw [(index0_4 t).1]; rfl
  · refine ((cfg0.win 4).rect_emb_val t (ix2 r a) 1).trans ?_
    rw [(index0_4 t).2]; exact Nat.zero_add _

/-- The block index of window 5. -/
theorem index0_5 : ∀ t : Fin cfg0.N, (cfg0.win 5).index t 0 = t.val ∧ (cfg0.win 5).index t 1 = 0 :=
  (by decide +kernel : ∀ t : Fin grid0.N, (win0 5).index t 0 = t.val ∧ (win0 5).index t 1 = 0)

/-- Where an index of window 5's block lies in the array. -/
theorem place0_5 (t : Fin cfg0.N) (r : Fin 128) (a : Fin 256) : ((cfg0.win 5).rect t).emb (ix2 r a) = ix2 (tok t r) a := by
  rw [eq_ix2 (((cfg0.win 5).rect t).emb (ix2 r a))]
  refine congrArg₂ ix2 (Fin.ext ?_) (Fin.ext ?_)
  · refine ((cfg0.win 5).rect_emb_val t (ix2 r a) 0).trans ?_
    rw [(index0_5 t).1]; rfl
  · refine ((cfg0.win 5).rect_emb_val t (ix2 r a) 1).trans ?_
    rw [(index0_5 t).2]; exact Nat.zero_add _

variable (V : Vals Ideal) (c : Dev nD)

/-- A point's block of the tokens. -/
theorem xB_at (t : Fin cfg0.N) (r : Fin 128) (a : Fin 256) : xB V c t (ix2 r a) = V c main_arg0 (ix2 (tok t r) a) :=
  congrArg (V c main_arg0) (place0_0 t r a)

/-- Every point's block of the codes is all of them. -/
theorem wB_at (t : Fin cfg0.N) (k : Fin 8192) (a : Fin 256) : wB V c t (ix2 k a) = V c main_arg1 (ix2 k a) :=
  congrArg (V c main_arg1) (place0_1 t k a)

/-- A point's block of the tokens' norms. -/
theorem x2B_at (t : Fin cfg0.N) (r : Fin 128) : x2B V c t (ix2 r 0) = V c main_v2 (ix2 (tok t r) 0) :=
  congrArg (V c main_v2) (place0_2 t r 0)

/-- Every point's block of the codes' norms is all of them. -/
theorem w2B_at (t : Fin cfg0.N) (k : Fin 8192) : w2B V c t (ix2 0 k) = V c main_v5 (ix2 0 k) :=
  congrArg (V c main_v5) (place0_3 t 0 k)

/-- Every token lies in exactly one block. -/
theorem sum_tok (f : Fin 9216 → EReal) : ∑ t : Fin cfg0.N, ∑ r : Fin 128, f (tok t r) = ∑ i, f i := by
  rw [← Fintype.sum_prod_type' (fun t r => f (tok t r))]
  refine Fintype.sum_bijective (fun p : Fin cfg0.N × Fin 128 => tok p.1 p.2) ⟨?_, ?_⟩ _ _ fun _ => rfl
  · rintro ⟨t, r⟩ ⟨t', r'⟩ h
    have h : t.val * 128 + r.val = t'.val * 128 + r'.val := congrArg Fin.val h
    have := r.isLt; have := r'.isLt
    exact Prod.ext (Fin.ext (by show t.val = t'.val; omega)) (Fin.ext (by show r.val = r'.val; omega))
  · intro i
    have := i.isLt
    refine ⟨(⟨i.val / 128, Nat.lt_of_lt_of_eq (by omega : i.val / 128 < 72) N_0.symm⟩, ⟨i.val % 128, by omega⟩), Fin.ext ?_⟩
    show i.val / 128 * 128 + i.val % 128 = i.val
    omega

/-- The last point. -/
abbrev last0 : Fin cfg0.N := ⟨71, Nat.lt_of_lt_of_eq (by decide : 71 < 72) N_0.symm⟩

/-- A running sum that starts with a block's share and adds one block's share at each later point ends as the sum over all tokens. -/
theorem total (f : (n : ℕ) → n < cfg0.N → EReal) (g : Fin 9216 → EReal)
    (h0 : ∀ h, f 0 h = ∑ r, g (tok ⟨0, h⟩ r))
    (hs : ∀ n h, f (n + 1) h = f n (Nat.lt_of_succ_lt h) + ∑ r, g (tok ⟨n + 1, h⟩ r))
    (t : Fin cfg0.N) (ht : t.val % 72 = 71) : f t.val t.isLt = ∑ i, g i := by
  have hN : cfg0.N = 72 := N_0
  have ht' := t.isLt
  rw [Pipeline.eq_sum_fin_of_reset_step_last f 72 0 (fun t => ∑ r, g (tok t r)) (fun t h => ?_) (fun t h => ?_) hN.le t (by omega), zero_add, sum_tok]
  · obtain ⟨n, hn⟩ := t
    have : n = 0 := by simp only at h; omega
    subst this
    rw [zero_add]; exact h0 hn
  · obtain ⟨n, hn⟩ := t
    cases n with
    | zero => exact absurd rfl h
    | succ n => exact hs n hn

variable {V c} {X : Fin 9216 → Fin 256 → EReal} {W : Fin 8192 → Fin 256 → EReal}
  (B : ∀ t, IsBlock X W (tok t) (xB V c t) (wB V c t) (x2B V c t) (w2B V c t))

include B

/-- After the last point the ranked sums run over all tokens. -/
theorem accHv_last (t : Fin cfg0.N) (ht : t.val % 72 = 71) (k : Fin 8192) (a : Fin 256) :
    (accHv V c t.val t.isLt (ix2 k a) : EReal) = ∑ i, Row.ranked X W i k * X i a :=
  total (fun n h => accHv V c n h (ix2 k a)) (fun i => Row.ranked X W i k * X i a) (fun h => (B ⟨0, h⟩).tileHv k a)
    (fun n h => (pay6_plain _ _ _ _ k a).trans (congrArg (accHv V c n (Nat.lt_of_succ_lt h) (ix2 k a) + ·) ((B ⟨n + 1, h⟩).tileHv k a))) t ht

/-- After the last point the rank column sums run over all tokens. -/
theorem accSums_last (t : Fin cfg0.N) (ht : t.val % 72 = 71) (k : Fin 8192) :
    (accSums V c t.val t.isLt (ix2 0 k) : EReal) = ∑ i, Row.ranked X W i k :=
  total (fun n h => accSums V c n h (ix2 0 k)) (fun i => Row.ranked X W i k) (fun h => (B ⟨0, h⟩).tileSums k)
    (fun n h => (pay7_plain _ _ _ k).trans (congrArg (accSums V c n (Nat.lt_of_succ_lt h) (ix2 0 k) + ·) ((B ⟨n + 1, h⟩).tileSums k))) t ht

/-- After the last point the counts run over all tokens. -/
theorem accCounts_last (t : Fin cfg0.N) (ht : t.val % 72 = 71) (k : Fin 8192) :
    (accCounts V c t.val t.isLt (ix2 0 k) : EReal) = Row.count X W k :=
  total (fun n h => accCounts V c n h (ix2 0 k)) (fun i => Row.enc X W i k) (fun h => (B ⟨0, h⟩).tileCounts k)
    (fun n h => (pay8_plain _ _ k).trans (congrArg (accCounts V c n (Nat.lt_of_succ_lt h) (ix2 0 k) + ·) ((B ⟨n + 1, h⟩).tileCounts k))) t ht

/-- After the last point the squared error runs over all tokens. -/
theorem accEsum_last (t : Fin cfg0.N) (ht : t.val % 72 = 71) : (accEsum V c t.val t.isLt (ix2 0 0) : EReal) = Row.error X W :=
  total (fun n h => accEsum V c n h (ix2 0 0)) (fun i => ∑ a, (Row.quant X W i a - X i a) * (Row.quant X W i a - X i a)) (fun h => (B ⟨0, h⟩).tileEsum)
    (fun n h => (pay9_plain _ _ _).trans (congrArg (accEsum V c n (Nat.lt_of_succ_lt h) (ix2 0 0) + ·) (B ⟨n + 1, h⟩).tileEsum)) t ht

/-- The encodings. -/
theorem arr0_4 : (dat0 V c).arrAt 4 cfg0.N = fun i => Row.enc X W (i 0) (i 1) := by
  refine (dat0 V c).arrAt_eq_of_covers 4 _ (by decide +kernel) fun t hf y => ?_
  obtain ⟨r, k, rfl⟩ : ∃ (r : Fin 128) (k : Fin 8192), y = ix2 r k := ⟨y 0, y 1, eq_ix2 y⟩
  refine ((B t).enc r k).trans ?_
  show _ = (fun i : (⟨2, ![9216, 8192]⟩ : Shape).Idx => Row.enc X W (i 0) (i 1)) (((cfg0.win 4).rect t).emb (ix2 r k))
  rw [place0_4 t r k]; rfl

/-- The straight-through rows. -/
theorem arr0_5 : (dat0 V c).arrAt 5 cfg0.N = fun i => Row.straight X W (i 0) (i 1) := by
  refine (dat0 V c).arrAt_eq_of_covers 5 _ (by decide +kernel) fun t hf y => ?_
  obtain ⟨r, k, rfl⟩ : ∃ (r : Fin 128) (k : Fin 256), y = ix2 r k := ⟨y 0, y 1, eq_ix2 y⟩
  refine ((B t).straight r k).trans ?_
  show _ = (fun i : (⟨2, ![9216, 256]⟩ : Shape).Idx => Row.straight X W (i 0) (i 1)) (((cfg0.win 5).rect t).emb (ix2 r k))
  rw [place0_5 t r k]; rfl

/-- The ranked sums of the tokens. -/
theorem arr0_6 (k : Fin 8192) (a : Fin 256) : ((dat0 V c).arrAt 6 cfg0.N (ix2 k a) : EReal) = ∑ i, Row.ranked X W i k * X i a :=
  ((dat0 V c).arrAt_emb_eq_after_last 6 last0 (by decide +kernel) (ix2 k a)).trans (accHv_last B last0 rfl k a)

/-- The rank column sums. -/
theorem arr0_7 (k : Fin 8192) : ((dat0 V c).arrAt 7 cfg0.N (ix2 0 k) : EReal) = ∑ i, Row.ranked X W i k :=
  ((dat0 V c).arrAt_emb_eq_after_last 7 last0 (by decide +kernel) (ix2 0 k)).trans (accSums_last B last0 rfl k)

/-- The nearest-code column sums. -/
theorem arr0_8 (k : Fin 8192) : ((dat0 V c).arrAt 8 cfg0.N (ix2 0 k) : EReal) = Row.count X W k :=
  ((dat0 V c).arrAt_emb_eq_after_last 8 last0 (by decide +kernel) (ix2 0 k)).trans (accCounts_last B last0 rfl k)

/-- The squared error. -/
theorem arr0_9 : ((dat0 V c).arrAt 9 cfg0.N (ix2 0 0) : EReal) = Row.error X W :=
  ((dat0 V c).arrAt_emb_eq_after_last 9 last0 (by decide +kernel) (ix2 0 0)).trans (accEsum_last B last0 rfl)

end Cert.KernelIdeal.Own

end
-- ==== Proof.KVal1.lean ====
module

public import proofs.«01_k».proof.Proof.KVal0

@[expose] public section

/-!
# The arrays the second launch leaves, element by element

The host stretches' values, and the four result arrays of the second launch from the entry contents.
-/

set_option maxRecDepth 16384

noncomputable section

namespace Cert.KernelIdeal.Own

open Cert.KernelIdeal Cert.KernelIdeal.Gen
open Idealize.ShloMosaic Idealize.ShloMosaic.TcCoe
open Idealize.ShloMosaic.StableHlo (after)
open Idealize.ShloMosaic.Pipeline (Dat Cfg Window)

/-- A code of a point's block. -/
def code (t : Fin cfg1.N) (r : Fin 1024) : Fin 8192 :=
  ⟨t.val * 1024 + r.val, by have h : t.val < 8 := Nat.lt_of_lt_of_eq t.isLt N_1; have := r.isLt; omega⟩

/-- The block index of window 0. -/
theorem index1_0 : ∀ t : Fin cfg1.N, (cfg1.win 0).index t 0 = t.val ∧ (cfg1.win 0).index t 1 = 0 :=
  (by decide +kernel : ∀ t : Fin grid1.N, (win1 0).index t 0 = t.val ∧ (win1 0).index t 1 = 0)

/-- Where an index of window 0's block lies in the array. -/
theorem place1_0 (t : Fin cfg1.N) (r : Fin 1024) (a : Fin 256) : ((cfg1.win 0).rect t).emb (ix2 r a) = ix2 (code t r) a := by
  rw [eq_ix2 (((cfg1.win 0).rect t).emb (ix2 r a))]
  refine congrArg₂ ix2 (Fin.ext ?_) (Fin.ext ?_)
  · refine ((cfg1.win 0).rect_emb_val t (ix2 r a) 0).trans ?_
    rw [(index1_0 t).1]; rfl
  · refine ((cfg1.win 0).rect_emb_val t (ix2 r a) 1).trans ?_
    rw [(index1_0 t).2]; exact Nat.zero_add _

/-- The block index of window 1. -/
theorem index1_1 : ∀ t : Fin cfg1.N, (cfg1.win 1).index t 0 = t.val ∧ (cfg1.win 1).index t 1 = 0 :=
  (by decide +kernel : ∀ t : Fin grid1.N, (win1 1).index t 0 = t.val ∧ (win1 1).index t 1 = 0)

/-- Where an index of window 1's block lies in the array. -/
theorem place1_1 (t : Fin cfg1.N) (r : Fin 1024) (a : Fin 256) : ((cfg1.win 1).rect t).emb (ix2 r a) = ix2 (code t r) a := by
  rw [eq_ix2 (((cfg1.win 1).rect t).emb (ix2 r a))]
  refine congrArg₂ ix2 (Fin.ext ?_) (Fin.ext ?_)
  · refine ((cfg1.win 1).rect_emb_val t (ix2 r a) 0).trans ?_
    rw [(index1_1 t).1]; rfl
  · refine ((cfg1.win 1).rect_emb_val t (ix2 r a) 1).trans ?_
    rw [(index1_1 t).2]; exact Nat.zero_add _

/-- The block index of window 2. -/
theorem index1_2 : ∀ t : Fin cfg1.N, (cfg1.win 2).index t 0 = t.val ∧ (cfg1.win 2).index t 1 = 0 :=
  (by decide +kernel : ∀ t : Fin grid1.N, (win1 2).index t 0 = t.val ∧ (win1 2).index t 1 = 0)

/-- Where an index of window 2's block lies in the array. -/
theorem place1_2 (t : Fin cfg1.N) (r : Fin 1024) (a : Fin 1) : ((cfg1.win 2).rect t).emb (ix2 r a) = ix2 (code t r) a := by
  rw [eq_ix2 (((cfg1.win 2).rect t).emb (ix2 r a))]
  refine congrArg₂ ix2 (Fin.ext ?_) (Fin.ext ?_)
  · refine ((cfg1.win 2).rect_emb_val t (ix2 r a) 0).trans ?_
    rw [(index1_2 t).1]; rfl
  · refine ((cfg1.win 2).rect_emb_val t (ix2 r a) 1).trans ?_
    rw [(index1_2 t).2]; exact Nat.zero_add _

/-- The block index of window 3. -/
theorem index1_3 : ∀ t : Fin cfg1.N, (cfg1.win 3).index t 0 = 0 ∧ (cfg1.win 3).index t 1 = 0 :=
  (by decide +kernel : ∀ t : Fin grid1.N, (win1 3).index t 0 = 0 ∧ (win1 3).index t 1 = 0)

/-- Where an index of window 3's block lies in the array. -/
theorem place1_3 (t : Fin cfg1.N) (r : Fin 1) (a : Fin 8192) : ((cfg1.win 3).rect t).emb (ix2 r a) = ix2 r a := by
  rw [eq_ix2 (((cfg1.win 3).rect t).emb (ix2 r a))]
  refine congrArg₂ ix2 (Fin.ext ?_) (Fin.ext ?_)
  · refine ((cfg1.win 3).rect_emb_val t (ix2 r a) 0).trans ?_
    rw [(index1_3 t).1]; exact Nat.zero_add _
  · refine ((cfg1.win 3).rect_emb_val t (ix2 r a) 1).trans ?_
    rw [(index1_3 t).2]; exact Nat.zero_add _

/-- The block index of window 4. -/
theorem index1_4 : ∀ t : Fin cfg1.N, (cfg1.win 4).index t 0 = 0 ∧ (cfg1.win 4).index t 1 = 0 :=
  (by decide +kernel : ∀ t : Fin grid1.N, (win1 4).index t 0 = 0 ∧ (win1 4).index t 1 = 0)

/-- Where an index of window 4's block lies in the array. -/
theorem place1_4 (t : Fin cfg1.N) (r : Fin 1) (a : Fin 1) : ((cfg1.win 4).rect t).emb (ix2 r a) = ix2 r a := by
  rw [eq_ix2 (((cfg1.win 4).rect t).emb (ix2 r a))]
  refine congrArg₂ ix2 (Fin.ext ?_) (Fin.ext ?_)
  · refine ((cfg1.win 4).rect_emb_val t (ix2 r a) 0).trans ?_
    rw [(index1_4 t).1]; exact Nat.zero_add _
  · refine ((cfg1.win 4).rect_emb_val t (ix2 r a) 1).trans ?_
    rw [(index1_4 t).2]; exact Nat.zero_add _

/-- The block index of window 5. -/
theorem index1_5 : ∀ t : Fin cfg1.N, (cfg1.win 5).index t 0 = t.val ∧ (cfg1.win 5).index t 1 = 0 :=
  (by decide +kernel : ∀ t : Fin grid1.N, (win1 5).index t 0 = t.val ∧ (win1 5).index t 1 = 0)

/-- Where an index of window 5's block lies in the array. -/
theorem place1_5 (t : Fin cfg1.N) (r : Fin 1024) (a : Fin 256) : ((cfg1.win 5).rect t).emb (ix2 r a) = ix2 (code t r) a := by
  rw [eq_ix2 (((cfg1.win 5).rect t).emb (ix2 r a))]
  refine congrArg₂ ix2 (Fin.ext ?_) (Fin.ext ?_)
  · refine ((cfg1.win 5).rect_emb_val t (ix2 r a) 0).trans ?_
    rw [(index1_5 t).1]; rfl
  · refine ((cfg1.win 5).rect_emb_val t (ix2 r a) 1).trans ?_
    rw [(index1_5 t).2]; exact Nat.zero_add _

/-- The block index of window 6. -/
theorem index1_6 : ∀ t : Fin cfg1.N, (cfg1.win 6).index t 0 = t.val ∧ (cfg1.win 6).index t 1 = 0 :=
  (by decide +kernel : ∀ t : Fin grid1.N, (win1 6).index t 0 = t.val ∧ (win1 6).index t 1 = 0)

/-- Where an index of window 6's block lies in the array. -/
theorem place1_6 (t : Fin cfg1.N) (r : Fin 1024) (a : Fin 256) : ((cfg1.win 6).rect t).emb (ix2 r a) = ix2 (code t r) a := by
  rw [eq_ix2 (((cfg1.win 6).rect t).emb (ix2 r a))]
  refine congrArg₂ ix2 (Fin.ext ?_) (Fin.ext ?_)
  · refine ((cfg1.win 6).rect_emb_val t (ix2 r a) 0).trans ?_
    rw [(index1_6 t).1]; rfl
  · refine ((cfg1.win 6).rect_emb_val t (ix2 r a) 1).trans ?_
    rw [(index1_6 t).2]; exact Nat.zero_add _

variable (V : Vals Ideal) (c : Dev nD)

/-- A point's block of the codes. -/
theorem wE_at (t : Fin cfg1.N) (r : Fin 1024) (a : Fin 256) : wE V c t (ix2 r a) = V c main_arg1 (ix2 (code t r) a) :=
  congrArg (V c main_arg1) (place1_0 t r a)

/-- A point's block of the ranked sums. -/
theorem hvE_at (t : Fin cfg1.N) (r : Fin 1024) (a : Fin 256) : hvE V c t (ix2 r a) = V c main_v6_2 (ix2 (code t r) a) :=
  congrArg (V c main_v6_2) (place1_1 t r a)

/-- A point's block of the rank column sums. -/
theorem sE_at (t : Fin cfg1.N) (r : Fin 1024) : sE V c t (ix2 r 0) = V c main_v7 (ix2 (code t r) 0) :=
  congrArg (V c main_v7) (place1_2 t r 0)

/-- Every point reads all counts. -/
theorem countsE_at (t : Fin cfg1.N) (k : Fin 8192) : countsE V c t (ix2 0 k) = V c main_v6_4 (ix2 0 k) :=
  congrArg (V c main_v6_4) (place1_3 t 0 k)

/-- Every point reads the squared error. -/
theorem esumE_at (t : Fin cfg1.N) : esumE V c t (ix2 0 0) = V c main_v6_5 (ix2 0 0) :=
  congrArg (V c main_v6_5) (place1_4 t 0 0)

section Plain

variable (w : Vec Ideal S1024x256 .f32) (s : Vec Ideal S1024x1 .f32) (hv : Vec Ideal S1024x256 .f32)
  (e : Vec Ideal S1x1 .f32) (n : Vec Ideal S1x8192 .f32)

/-- The step of a code. -/
theorem delta_plain (r : Fin 1024) (a : Fin 256) : (k1_pay1 w s hv (ix2 r a) : EReal)
    = Ideal.ofBits .f32 981668463#32 * (hv (ix2 r a) - s (ix2 r 0) * w (ix2 r a)) := by
  pointwise [k1_pay1]

/-- The stepped code. -/
theorem new_plain (r : Fin 1024) (a : Fin 256) : (k1_pay2 w s hv (ix2 r a) : EReal)
    = w (ix2 r a) + Ideal.ofBits .f32 981668463#32 * (hv (ix2 r a) - s (ix2 r 0) * w (ix2 r a)) := by
  pointwise [k1_pay2, k1_pay1]

/-- The first named constant is the reciprocal it stands for. -/
theorem loss_scale_eq : (Named.named κ "loss_scale" 870551097#32 : Ideal .f32) = ((1 / 9437184 : ℝ) : EReal) :=
  IdealRules.named_const.ideal_named_scalar _ _ _ _ rfl

/-- The second named constant is the reciprocal it stands for. -/
theorem inv_tokens_eq : (Named.named κ "inv_tokens" 954437177#32 : Ideal .f32) = ((1 / 9216 : ℝ) : EReal) :=
  IdealRules.named_const.ideal_named_scalar _ _ _ _ rfl

/-- The loss from the squared error. -/
theorem loss_plain : (k1_pay3 e (ix2 0 0) : EReal) = ((1 / 9437184 : ℝ) : EReal) * e (ix2 0 0) := by
  have h : (k1_pay3 e (ix2 0 0) : EReal) = (Named.named κ "loss_scale" 870551097#32 : Ideal .f32) * e (ix2 0 0) := by
    pointwise [k1_pay3]
  rw [h, loss_scale_eq]

/-- The perplexity from the counts. -/
theorem perp_plain : (k1_pay4 n (ix2 0 0) : EReal)
    = Ideal.exp (0 - ∑ k, n (ix2 0 k) * ((1 / 9216 : ℝ) : EReal)
        * Ideal.log (n (ix2 0 k) * ((1 / 9216 : ℝ) : EReal) + Ideal.ofBits .f32 786163455#32)) := by
  have h : (k1_pay4 n (ix2 0 0) : EReal)
    = Ideal.exp (0 - ∑ _ : Fin 1, ∑ k, n (ix2 0 k) * (Named.named κ "inv_tokens" 954437177#32 : Ideal .f32)
        * Ideal.log (n (ix2 0 k) * (Named.named κ "inv_tokens" 954437177#32 : Ideal .f32) + Ideal.ofBits .f32 786163455#32)) := by
    pointwise [k1_pay4]
  rw [h, inv_tokens_eq]
  simp only [Finset.univ_unique, Finset.sum_singleton]

/-- A mean over all entries, then a quarter, is one product. -/
theorem quarter (e : EReal) : ((1 / 9437184 : ℝ) : EReal) * e
    = Ideal.ofBits .f32 1048576000#32 * Ideal.div e (Ideal.ofBits .f32 1242562560#32) := by
  have h1 : (Ideal.ofBits .f32 1048576000#32 : EReal) = ((1 / 4 : ℝ) : EReal) := by
    simp [Ideal.ofBits, Ideal.ieee, -EReal.coe_mul]; norm_num [-EReal.coe_mul]
  have h2 : (Ideal.ofBits .f32 1242562560#32 : EReal) = ((2359296 : ℝ) : EReal) := by
    simp [Ideal.ofBits, Ideal.ieee, -EReal.coe_mul]; norm_num [-EReal.coe_mul]
  rw [h1, h2, Ideal.div, if_neg (by norm_num), ← EReal.coe_inv, mul_comm e, ← mul_assoc, ← EReal.coe_mul]
  norm_num

/-- A share of the tokens is a product with the reciprocal. -/
theorem share (e : EReal) : e * ((1 / 9216 : ℝ) : EReal) = Ideal.div e (Ideal.ofBits .f32 1175453696#32) := by
  have h2 : (Ideal.ofBits .f32 1175453696#32 : EReal) = ((9216 : ℝ) : EReal) := by
    simp [Ideal.ofBits, Ideal.ieee, -EReal.coe_mul]; norm_num [-EReal.coe_mul]
  rw [h2, Ideal.div, if_neg (by norm_num), ← EReal.coe_inv]
  norm_num

end Plain

/-- What the second launch is entered with: the codes, the ranked sums, their column sums, the counts and the error. -/
structure IsEntry (X : Fin 9216 → Fin 256 → EReal) (W : Fin 8192 → Fin 256 → EReal) : Prop where
  w : ∀ k a, (V c main_arg1 (ix2 k a) : EReal) = W k a
  hv : ∀ k a, (V c main_v6_2 (ix2 k a) : EReal) = ∑ i, Row.ranked X W i k * X i a
  s : ∀ k, (V c main_v7 (ix2 k 0) : EReal) = ∑ i, Row.ranked X W i k
  counts : ∀ k, (V c main_v6_4 (ix2 0 k) : EReal) = Row.count X W k
  esum : (V c main_v6_5 (ix2 0 0) : EReal) = Row.error X W

variable {V c} {X : Fin 9216 → Fin 256 → EReal} {W : Fin 8192 → Fin 256 → EReal} (B : IsEntry V c X W)

include B

/-- The steps of the codes. -/
theorem arr1_5 : (dat1 V c).arrAt 5 cfg1.N = fun i => Row.delta X W (i 0) (i 1) := by
  refine (dat1 V c).arrAt_eq_of_covers 5 _ (by decide +kernel) fun t hf y => ?_
  obtain ⟨r, a, rfl⟩ : ∃ (r : Fin 1024) (a : Fin 256), y = ix2 r a := ⟨y 0, y 1, eq_ix2 y⟩
  refine (delta_plain (wE V c t) (sE V c t) (hvE V c t) r a).trans ?_
  rw [wE_at, hvE_at, sE_at, B.w, B.hv, B.s]
  show _ = (fun i : (⟨2, ![8192, 256]⟩ : Shape).Idx => Row.delta X W (i 0) (i 1)) (((cfg1.win 5).rect t).emb (ix2 r a))
  rw [place1_5 t r a]; rfl

/-- The stepped codes. -/
theorem arr1_6 : (dat1 V c).arrAt 6 cfg1.N = fun i => Row.newWeight X W (i 0) (i 1) := by
  refine (dat1 V c).arrAt_eq_of_covers 6 _ (by decide +kernel) fun t hf y => ?_
  obtain ⟨r, a, rfl⟩ : ∃ (r : Fin 1024) (a : Fin 256), y = ix2 r a := ⟨y 0, y 1, eq_ix2 y⟩
  refine (new_plain (wE V c t) (sE V c t) (hvE V c t) r a).trans ?_
  rw [wE_at, hvE_at, sE_at, B.w, B.hv, B.s]
  show _ = (fun i : (⟨2, ![8192, 256]⟩ : Shape).Idx => Row.newWeight X W (i 0) (i 1)) (((cfg1.win 6).rect t).emb (ix2 r a))
  rw [place1_6 t r a]; rfl

/-- The last point. -/
abbrev last1 : Fin cfg1.N := ⟨7, Nat.lt_of_lt_of_eq (by decide : 7 < 8) N_1.symm⟩

/-- The loss. -/
theorem arr1_7 : ((dat1 V c).arrAt 7 cfg1.N (ix2 0 0) : EReal) = Row.loss X W := by
  refine ((dat1 V c).arrAt_emb_eq_after_last 7 last1 (by decide +kernel) (ix2 0 0)).trans ?_
  refine (loss_plain (esumE V c p0)).trans ?_
  rw [esumE_at, B.esum, quarter]; rfl

/-- The perplexity. -/
theorem arr1_8 : ((dat1 V c).arrAt 8 cfg1.N (ix2 0 0) : EReal) = Row.perp X W := by
  refine ((dat1 V c).arrAt_emb_eq_after_last 8 last1 (by decide +kernel) (ix2 0 0)).trans ?_
  refine (perp_plain (countsE V c p0)).trans ?_
  simp only [countsE_at, B.counts, share, zero_sub]; rfl

end Cert.KernelIdeal.Own

end
-- ==== Proof.KVal.lean ====
module

public import proofs.«01_k».proof.Proof.KVal1

@[expose] public section

/-!
# What the kernel leaves in its six results

The host stretches around the launches, and so each result of the whole program as the formulas of `Row` over the two arrays the
program was started with.
-/

set_option maxRecDepth 16384

noncomputable section

namespace Cert.KernelIdeal.Own

open Cert.KernelIdeal Cert.KernelIdeal.Gen
open Idealize.ShloMosaic Idealize.ShloMosaic.TcCoe
open Idealize.ShloMosaic.StableHlo (after)

variable {F : FTy → Type} [FloatOps F] [Named F]

/-- The squared norms of the tokens. -/
def norms (x : (⟨S9216x256, .f32⟩ : BufTy).Contents (Elt F)) : (⟨S9216x1, .f32⟩ : BufTy).Contents (Elt F) :=
  broadcastInDim S9216x1 ![0] bcast_S9216_S9216x1_0
    (Host.reduceAdd (mulf x x) (constant S_ .f32 0x00000000#32) reducesTo_S9216x256_S9216_d1 h_S_)

/-- The squared norms of the codes. -/
def codeNorms (w : (⟨S8192x256, .f32⟩ : BufTy).Contents (Elt F)) : (⟨S1x8192, .f32⟩ : BufTy).Contents (Elt F) :=
  broadcastInDim S1x8192 ![1] bcast_S8192_S1x8192_1
    (Host.reduceAdd (mulf w w) (constant S_ .f32 0x00000000#32) reducesTo_S8192x256_S8192_d1 h_S_)

/-- The first stretch leaves the tokens' squared norms. -/
theorem after_norms (V : Valuation τ sig (Elt F)) : after hostOps0 V main_v2 = norms (V main_arg0) := by
  unfold hostOps0
  after_reads_simp
  rfl

/-- The first stretch leaves the codes' squared norms. -/
theorem after_codeNorms (V : Valuation τ sig (Elt F)) : after hostOps0 V main_v5 = codeNorms (V main_arg1) := by
  unfold hostOps0
  after_reads_simp
  rfl

/-- A row of 8192 stood up as a column. -/
def column (s : (⟨S1x8192, .f32⟩ : BufTy).Contents (Elt F)) : (⟨S8192x1, .f32⟩ : BufTy).Contents (Elt F) :=
  shapeCast S8192x1 s shapeCasts_S1x8192_S8192x1

/-- The one entry of a 1×1 array as a scalar. -/
def entry (s : (⟨S1x1, .f32⟩ : BufTy).Contents (Elt F)) : (⟨S_, .f32⟩ : BufTy).Contents (Elt F) :=
  shapeCast S_ s shapeCasts_S1x1_S_

/-- The middle stretch leaves the rank sums as a column. -/
theorem after_column (V : Valuation τ sig (Elt F)) : after hostOps1 V main_v7 = column (V main_v6_3) := by
  unfold hostOps1
  after_reads_simp
  rfl

/-- The last stretch leaves the loss as a scalar. -/
theorem after_loss (V : Valuation τ sig (Elt F)) : after hostOps2 V main_v9 = entry (V main_v8_2) := by
  unfold hostOps2
  after_reads_simp
  rfl

/-- The last stretch leaves the perplexity as a scalar. -/
theorem after_perp (V : Valuation τ sig (Elt F)) : after hostOps2 V main_v10 = entry (V main_v8_3) := by
  unfold hostOps2
  after_reads_simp
  rfl

/-- A token's squared norm is the sum of its squares. -/
theorem norms_at (x : FVec Ideal S9216x256 .f32) (i : Fin 9216) : (norms (F := Ideal) x (ix2 i 0) : EReal) = ∑ a, x (ix2 i a) * x (ix2 i a) := by
  pointwise [norms]

/-- A code's squared norm is the sum of its squares. -/
theorem codeNorms_at (w : FVec Ideal S8192x256 .f32) (k : Fin 8192) : (codeNorms (F := Ideal) w (ix2 0 k) : EReal) = ∑ a, w (ix2 k a) * w (ix2 k a) := by
  pointwise [codeNorms]

/-- The column's entries are the row's. -/
theorem column_at (s : FVec Ideal S1x8192 .f32) (k : Fin 8192) : column (F := Ideal) s (ix2 k 0) = s (ix2 0 k) := by
  pointwise [column]

/-- The scalar is the one entry. -/
theorem entry_at (s : FVec Ideal S1x1 .f32) : entry (F := Ideal) s ix0 = s (ix2 0 0) := by
  pointwise [entry]

variable (m : (ℓ : Loc nD τ sig) → Buf (Elt Ideal) ℓ) (c : Dev nD)

/-- The tokens the program is started with. -/
abbrev X (i : Fin 9216) (a : Fin 256) : EReal := (m ((c.tc : Thread nD τ).loc main_arg0) : FVec Ideal S9216x256 .f32) (ix2 i a)
/-- The codes the program is started with. -/
abbrev W (k : Fin 8192) (a : Fin 256) : EReal := (m ((c.tc : Thread nD τ).loc main_arg1) : FVec Ideal S8192x256 .f32) (ix2 k a)

/-- The first launch's blocks hold the tokens, the codes and their squared norms. -/
theorem blocks (t : Fin cfg0.N) : IsBlock (X m c) (W m c) (tok t) (xB (E1 m) c t) (wB (E1 m) c t) (x2B (E1 m) c t) (w2B (E1 m) c t) where
  x r a := (xB_at (E1 m) c t r a).trans (congrFun (V1_of m c main_arg0 (by decide)) (ix2 (tok t r) a))
  w k a := (wB_at (E1 m) c t k a).trans (congrFun (V1_of m c main_arg1 (by decide)) (ix2 k a))
  x2 r := (x2B_at (E1 m) c t r).trans ((congrFun (after_norms (V0 m c)) (ix2 (tok t r) 0)).trans (norms_at _ (tok t r)))
  w2 k := (w2B_at (E1 m) c t k).trans ((congrFun (after_codeNorms (V0 m c)) (ix2 0 k)).trans (codeNorms_at _ k))

/-- The stretch between the launches leaves everything but the column as it was. -/
theorem between (r : Ref sig .tc) (h : r ∉ hostOps1_W) : E3 m c r = left0 m c r :=
  StableHlo.after_of_writes_sub hostOps1 _ hostOps1_writes h

/-- The stretch after the launches leaves everything but the two scalars as it was. -/
theorem afterwards (r : Ref sig .tc) (h : r ∉ hostOps2_W) : fin m c r = left1 m c r :=
  (V5_of m (outs m) c r h).trans (congrFun (V4_eq m c) _)

/-- The codes, as the second launch finds them. -/
theorem E3_arg1 : E3 m c main_arg1 = m ((c.tc : Thread nD τ).loc main_arg1) :=
  (congrFun (V3_eq m c) _).symm.trans
    ((V3_of m (outs m) c main_arg1 (by decide)).trans ((V2_of m (outs m) c main_arg1 (by decide)).trans (V1_of m c main_arg1 (by decide))))

/-- The second launch is entered with the codes and the first launch's totals. -/
theorem entered : IsEntry (E3 m) c (X m c) (W m c) where
  w k a := congrFun (E3_arg1 m c) (ix2 k a)
  hv k a := (congrFun ((between m c main_v6_2 (by decide)).trans (left0_6 m c)) (ix2 k a)).trans (arr0_6 (blocks m c) k a)
  s k := (congrFun (after_column (left0 m c)) (ix2 k 0)).trans
    ((column_at _ k).trans ((congrFun (left0_7 m c) (ix2 0 k)).trans (arr0_7 (blocks m c) k)))
  counts k := (congrFun ((between m c main_v6_4 (by decide)).trans (left0_8 m c)) (ix2 0 k)).trans (arr0_8 (blocks m c) k)
  esum := (congrFun ((between m c main_v6_5 (by decide)).trans (left0_9 m c)) (ix2 0 0)).trans (arr0_9 (blocks m c))

/-- The encodings the program leaves. -/
theorem fin_enc (i : Fin 9216) (j : Fin 8192) : (fin m c main_v6_0 (ix2 i j) : EReal) = Row.enc (X m c) (W m c) i j :=
  congrFun ((V5_of m (outs m) c main_v6_0 (by decide)).trans ((V4_of m (outs m) c main_v6_0 (by decide)).trans
    ((V3_of m (outs m) c main_v6_0 (by decide)).trans ((congrFun (V2_eq m c) _).trans ((left0_4 m c).trans (arr0_4 (blocks m c))))))) (ix2 i j)

/-- The straight-through rows the program leaves. -/
theorem fin_straight (i : Fin 9216) (a : Fin 256) : (fin m c main_v6_1 (ix2 i a) : EReal) = Row.straight (X m c) (W m c) i a :=
  congrFun ((V5_of m (outs m) c main_v6_1 (by decide)).trans ((V4_of m (outs m) c main_v6_1 (by decide)).trans
    ((V3_of m (outs m) c main_v6_1 (by decide)).trans ((congrFun (V2_eq m c) _).trans ((left0_5 m c).trans (arr0_5 (blocks m c))))))) (ix2 i a)

/-- The steps the program leaves. -/
theorem fin_delta (k : Fin 8192) (a : Fin 256) : (fin m c main_v8_0 (ix2 k a) : EReal) = Row.delta (X m c) (W m c) k a :=
  congrFun ((afterwards m c main_v8_0 (by decide)).trans ((left1_5 m c).trans (arr1_5 (entered m c)))) (ix2 k a)

/-- The stepped codes the program leaves. -/
theorem fin_new (k : Fin 8192) (a : Fin 256) : (fin m c main_v8_1 (ix2 k a) : EReal) = Row.newWeight (X m c) (W m c) k a :=
  congrFun ((afterwards m c main_v8_1 (by decide)).trans ((left1_6 m c).trans (arr1_6 (entered m c)))) (ix2 k a)

/-- The loss the program leaves. -/
theorem fin_loss : (fin m c main_v9 ix0 : EReal) = Row.loss (X m c) (W m c) :=
  (congrFun (after_loss (V4 m (outs m) c)) ix0).trans ((entry_at _).trans
    ((congrFun ((congrFun (V4_eq m c) _).trans (left1_7 m c)) (ix2 0 0)).trans (arr1_7 (entered m c))))

/-- The perplexity the program leaves. -/
theorem fin_perp : (fin m c main_v10 ix0 : EReal) = Row.perp (X m c) (W m c) :=
  (congrFun (after_perp (V4 m (outs m) c)) ix0).trans ((entry_at _).trans
    ((congrFun ((congrFun (V4_eq m c) _).trans (left1_8 m c)) (ix2 0 0)).trans (arr1_8 (entered m c))))

end Cert.KernelIdeal.Own

end
-- ==== Proof.RefRun.lean ====
module
public import proofs.«01_k».proof.Proof.RefVal
@[expose] public section

/-!
# The reference runs

The whole line, from any memory: each result as a function of the three arguments.
-/

set_option maxRecDepth 16384
noncomputable section
namespace Cert.ReferenceIdeal.Own
open Cert.ReferenceIdeal
open Idealize.ShloMosaic Idealize.ShloMosaic.TcCoe Idealize.SL.Sem
open Idealize.ShloMosaic.StableHlo (after)
variable {F : FTy → Type} [FloatOps F]
/-- The distances, the codes, the vectors taken and the weights, of the three arguments. -/
abbrev rE (x : (⟨S9216x256, .f32⟩ : BufTy).Contents (Elt F)) (w : (⟨S8192x256, .f32⟩ : BufTy).Contents (Elt F)) := rCode (F := F) (rArg (rDist x w))
/-- The code vectors taken, of the two arrays. -/
abbrev rQ (x : (⟨S9216x256, .f32⟩ : BufTy).Contents (Elt F)) (w : (⟨S8192x256, .f32⟩ : BufTy).Contents (Elt F)) := rQuant (rE x w) w
/-- The weights, of the three arguments. -/
abbrev rP (x : (⟨S9216x256, .f32⟩ : BufTy).Contents (Elt F)) (w : (⟨S8192x256, .f32⟩ : BufTy).Contents (Elt F)) (n : (⟨S_, .i32⟩ : BufTy).Contents (Elt F)) := rWeight (rSort (rDist x w)) (rScale n)

/-- The line leaves the loss. -/
theorem line_loss (V : Valuation τ sig (Elt F)) : after refOps V main_v45 = rLoss (rQ (V main_arg0) (V main_arg1)) (V main_arg0) := by
  unfold refOps
  simp only [StableHlo.after_append]
  rw [keepPerp _ main_v45 (by decide), keepStraight _ main_v45 (by decide), after_rLoss, keepDelta _ main_v16 (by decide), keepDelta _ main_arg0 (by decide), keepWeight _ main_v16 (by decide), keepWeight _ main_arg0 (by decide), keepSort _ main_v16 (by decide), keepSort _ main_arg0 (by decide), keepScale _ main_v16 (by decide), keepScale _ main_arg0 (by decide), after_rQuant, keepQuant _ main_arg0 (by decide), after_rCode, keepCode _ main_arg1 (by decide), keepCode _ main_arg0 (by decide), after_rArg, keepArg _ main_arg1 (by decide), keepArg _ main_arg0 (by decide), after_rDist, keepDist _ main_arg1 (by decide), keepDist _ main_arg0 (by decide)]

/-- The line leaves the straight-through rows. -/
theorem line_straight (V : Valuation τ sig (Elt F)) : after refOps V main_v47 = rStraight (rQ (V main_arg0) (V main_arg1)) (V main_arg0) := by
  unfold refOps
  simp only [StableHlo.after_append]
  rw [keepPerp _ main_v47 (by decide), after_rStraight, keepLoss _ main_v16 (by decide), keepLoss _ main_arg0 (by decide), keepDelta _ main_v16 (by decide), keepDelta _ main_arg0 (by decide), keepWeight _ main_v16 (by decide), keepWeight _ main_arg0 (by decide), keepSort _ main_v16 (by decide), keepSort _ main_arg0 (by decide), keepScale _ main_v16 (by decide), keepScale _ main_arg0 (by decide), after_rQuant, keepQuant _ main_arg0 (by decide), after_rCode, keepCode _ main_arg1 (by decide), keepCode _ main_arg0 (by decide), after_rArg, keepArg _ main_arg1 (by decide), keepArg _ main_arg0 (by decide), after_rDist, keepDist _ main_arg1 (by decide), keepDist _ main_arg0 (by decide)]

/-- The line leaves the perplexity. -/
theorem line_perp (V : Valuation τ sig (Elt F)) : after refOps V main_v57 = rPerp (rE (V main_arg0) (V main_arg1)) := by
  unfold refOps
  simp only [StableHlo.after_append]
  rw [after_rPerp, keepStraight _ main_v15 (by decide), keepLoss _ main_v15 (by decide), keepDelta _ main_v15 (by decide), keepWeight _ main_v15 (by decide), keepSort _ main_v15 (by decide), keepScale _ main_v15 (by decide), keepQuant _ main_v15 (by decide), after_rCode, after_rArg, after_rDist]

/-- The line leaves the encodings. -/
theorem line_enc (V : Valuation τ sig (Elt F)) : after refOps V main_v15 = rE (V main_arg0) (V main_arg1) := by
  unfold refOps
  simp only [StableHlo.after_append]
  rw [keepPerp _ main_v15 (by decide), keepStraight _ main_v15 (by decide), keepLoss _ main_v15 (by decide), keepDelta _ main_v15 (by decide), keepWeight _ main_v15 (by decide), keepSort _ main_v15 (by decide), keepScale _ main_v15 (by decide), keepQuant _ main_v15 (by decide), after_rCode, after_rArg, after_rDist]

/-- The line leaves the stepped codes. -/
theorem line_new (V : Valuation τ sig (Elt F)) : after refOps V main_v40 = rNew (rP (V main_arg0) (V main_arg1) (V main_arg2)) (V main_arg0) (V main_arg1) := by
  unfold refOps
  simp only [StableHlo.after_append]
  rw [keepPerp _ main_v40 (by decide), keepStraight _ main_v40 (by decide), keepLoss _ main_v40 (by decide), after_rNew, after_rWeight, keepWeight _ main_arg0 (by decide), keepWeight _ main_arg1 (by decide), after_rSort, keepSort _ main_v20 (by decide), keepSort _ main_arg0 (by decide), keepSort _ main_arg1 (by decide), keepScale _ main_v13 (by decide), after_rScale, keepScale _ main_arg0 (by decide), keepScale _ main_arg1 (by decide), keepQuant _ main_v13 (by decide), keepQuant _ main_arg2 (by decide), keepQuant _ main_arg0 (by decide), keepQuant _ main_arg1 (by decide), keepCode _ main_v13 (by decide), keepCode _ main_arg2 (by decide), keepCode _ main_arg0 (by decide), keepCode _ main_arg1 (by decide), keepArg _ main_v13 (by decide), keepArg _ main_arg2 (by decide), keepArg _ main_arg0 (by decide), keepArg _ main_arg1 (by decide), after_rDist, keepDist _ main_arg2 (by decide), keepDist _ main_arg0 (by decide), keepDist _ main_arg1 (by decide)]

/-- The line leaves the steps. -/
theorem line_delta (V : Valuation τ sig (Elt F)) : after refOps V main_v39 = rDelta (rP (V main_arg0) (V main_arg1) (V main_arg2)) (V main_arg0) (V main_arg1) := by
  unfold refOps
  simp only [StableHlo.after_append]
  rw [keepPerp _ main_v39 (by decide), keepStraight _ main_v39 (by decide), keepLoss _ main_v39 (by decide), after_rDelta, after_rWeight, keepWeight _ main_arg0 (by decide), keepWeight _ main_arg1 (by decide), after_rSort, keepSort _ main_v20 (by decide), keepSort _ main_arg0 (by decide), keepSort _ main_arg1 (by decide), keepScale _ main_v13 (by decide), after_rScale, keepScale _ main_arg0 (by decide), keepScale _ main_arg1 (by decide), keepQuant _ main_v13 (by decide), keepQuant _ main_arg2 (by decide), keepQuant _ main_arg0 (by decide), keepQuant _ main_arg1 (by decide), keepCode _ main_v13 (by decide), keepCode _ main_arg2 (by decide), keepCode _ main_arg0 (by decide), keepCode _ main_arg1 (by decide), keepArg _ main_v13 (by decide), keepArg _ main_arg2 (by decide), keepArg _ main_arg0 (by decide), keepArg _ main_arg1 (by decide), after_rDist, keepDist _ main_arg2 (by decide), keepDist _ main_arg0 (by decide), keepDist _ main_arg1 (by decide)]

/-- The line leaves the tokens as they were. -/
theorem line_arg0 (V : Valuation τ sig (Elt F)) : after refOps V main_arg0 = (V main_arg0) := by
  unfold refOps
  simp only [StableHlo.after_append]
  rw [keepPerp _ main_arg0 (by decide), keepStraight _ main_arg0 (by decide), keepLoss _ main_arg0 (by decide), keepDelta _ main_arg0 (by decide), keepWeight _ main_arg0 (by decide), keepSort _ main_arg0 (by decide), keepScale _ main_arg0 (by decide), keepQuant _ main_arg0 (by decide), keepCode _ main_arg0 (by decide), keepArg _ main_arg0 (by decide), keepDist _ main_arg0 (by decide)]

/-- The line leaves the codes as they were. -/
theorem line_arg1 (V : Valuation τ sig (Elt F)) : after refOps V main_arg1 = (V main_arg1) := by
  unfold refOps
  simp only [StableHlo.after_append]
  rw [keepPerp _ main_arg1 (by decide), keepStraight _ main_arg1 (by decide), keepLoss _ main_arg1 (by decide), keepDelta _ main_arg1 (by decide), keepWeight _ main_arg1 (by decide), keepSort _ main_arg1 (by decide), keepScale _ main_arg1 (by decide), keepQuant _ main_arg1 (by decide), keepCode _ main_arg1 (by decide), keepArg _ main_arg1 (by decide), keepDist _ main_arg1 (by decide)]

/-- The line leaves the time as it was. -/
theorem line_arg2 (V : Valuation τ sig (Elt F)) : after refOps V main_arg2 = (V main_arg2) := by
  unfold refOps
  simp only [StableHlo.after_append]
  rw [keepPerp _ main_arg2 (by decide), keepStraight _ main_arg2 (by decide), keepLoss _ main_arg2 (by decide), keepDelta _ main_arg2 (by decide), keepWeight _ main_arg2 (by decide), keepSort _ main_arg2 (by decide), keepScale _ main_arg2 (by decide), keepQuant _ main_arg2 (by decide), keepCode _ main_arg2 (by decide), keepArg _ main_arg2 (by decide), keepDist _ main_arg2 (by decide)]

set_option maxHeartbeats 2000000 in
/-- The reference runs to its end from any memory, leaving every buffer at what the line leaves and every semaphore counter at zero. -/
theorem run_line (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = after refOps (StableHlo.launchContents m d) (Proc.devRef .tc b))
        ∧ r.2.sem = fun _ => 0 :=
  (θ_run defs _ _).mono (fun r h => ⟨h, sem_eq_zero_of_no_sems (by decide) r.2⟩)
    (StableHlo.run_hlo defs main main_line rfl rfl (by simp [refOps, opsDist, opsArg, opsCode, opsQuant, opsScale, opsSort, opsWeight, opsDelta, opsLoss, opsStraight, opsPerp])
      (by intro _ h; (repeat (cases h with | head => rfl | tail _ h => ?_)); exact nomatch h) m ρ)

end Cert.ReferenceIdeal.Own

end
-- ==== Proof.RVal.lean ====
module

public import proofs.«01_k».proof.Proof.Spec
public import proofs.«01_k».proof.Proof.RefRun

@[expose] public section

/-!
# What the reference computes, element by element

Each function of the reference's line read at an index of its result, at the ideal values; then the six results as the formulas of
`Spec` (those that use the weights from `time = 99` on).
-/

set_option maxRecDepth 16384

noncomputable section

namespace Cert.ReferenceIdeal.Own

open Cert.ReferenceIdeal
open Idealize.ShloMosaic

variable (x : FVec Ideal S9216x256 .f32) (w : FVec Ideal S8192x256 .f32) (d : FVec Ideal S9216x8192 .f32)

/-- An array's rows, as a function of its two coordinates. -/
abbrev rows {n m : ℕ} (v : FVec Ideal ⟨2, ![n, m]⟩ .f32) (i : Fin n) (j : Fin m) : EReal := v (ix2 i j)

/-- The reference's distances. -/
theorem rDist_at (i : Fin 9216) (j : Fin 8192) : rDist (F := Ideal) x w (ix2 i j) = Row.dist (rows x) (rows w) i j := by
  pointwise [rDist, Row.dist]

/-- The pairs a two-operand reduction meets at `j` are those of the indices that drop to `j`. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ p = (x i, y i) := by
  simp only [Host.argReduceFiber, List.mem_map, List.mem_filter, List.mem_finRange, true_and, decide_eq_true_eq]
  constructor
  · rintro ⟨n, hn, rfl⟩; exact ⟨_, hn, rfl⟩
  · rintro ⟨i, hi, rfl⟩
    exact ⟨s.rowMajor i, by rw [Equiv.symm_apply_apply]; exact hi, by rw [Equiv.symm_apply_apply]⟩

/-- The second result of a two-operand sort, at an index. -/
theorem sort2_at (s : Shape) (n : ℕ) (hn : n < s.rank) {α β : Type} (cmp : α × β → α × β → BitVec 1) (x : s.Idx → α) (y : s.Idx → β) (j : s.Idx) :
    (Host.sort2 s n cmp x y).2 j
      = y (j.along ⟨n, hn⟩ (sortedFrom (fun k k' => cmp (x (j.along ⟨n, hn⟩ k), y (j.along ⟨n, hn⟩ k)) (x (j.along ⟨n, hn⟩ k'), y (j.along ⟨n, hn⟩ k')) == 1#1) (j ⟨n, hn⟩))) := by
  unfold Host.sort2
  rw [dif_pos hn]

/-- Dropping the second coordinate leaves the first. -/
theorem drop_at (i : Fin 9216) (k : S9216x8192.Idx) : Facts₀.reducesTo_S9216x8192_S9216_d1.drop k = ix1 i ↔ k 0 = i := by
  have e := Facts₀.reducesTo_S9216x8192_S9216_d1.drop_apply_val_of_eq k 0 0
  constructor
  · intro h; rw [h] at e; exact Fin.ext e.symm
  · intro h
    rw [eq_ix1 (Facts₀.reducesTo_S9216x8192_S9216_d1.drop k)]
    exact congrArg ix1 (Fin.ext (e.trans (congrArg Fin.val h)))

/-- A two-operand reduction by the reference's step, from `(⊤, 0)`, over the pairs of one row. -/
theorem argReduce_at {s t u : Shape} {axes : List (Fin s.rank)} (x : FVec Ideal s .f32) (y : IVec s 32) (ix : FVec Ideal u .f32) (iy : IVec u 32)
    (h : s.ReducesTo axes t) (hu : 0 < u.numel) (j : t.Idx) (r : Fin 8192 → EReal)
    (hx : ix (Shape.Idx.first hu) = (⊤ : EReal)) (hy : iy (Shape.Idx.first hu) = 0#32)
    (hm : ∀ p : EReal × BitVec 32, (∃ i, h.drop i = j ∧ p = (x i, y i)) ↔ ∃ k : Fin 8192, p = (r k, BitVec.ofNat 32 (k : ℕ))) :
    (Host.argReduce (reducer_argmin_f32_i32 (F := Ideal)) x y ix iy h hu j).2 = BitVec.ofNat 32 (Row.nearest r : ℕ) := by
  rw [Ideal.argReduce_eq_reduce2, Host.reduce2_eq_foldl_fiber, hx, hy]
  exact Row.foldl_argmin r _ fun p => (mem_fiber x y h j p).trans (hm p)

/-- The reference's argmin along a row is the nearest code. -/
theorem rArg_at (i : Fin 9216) : rArg (F := Ideal) d (ix1 i) = BitVec.ofNat 32 (Row.nearest (rows d i) : ℕ) := by
  have h1 : rArg (F := Ideal) d = fun j => (Host.argReduce (reducer_argmin_f32_i32 (F := Ideal)) d (iotaInDim S9216x8192 32 1)
      (constant S_ .f32 0x7F800000#32 : FVec Ideal S_ .f32) (constantI S_ 32 0#32) Facts₀.reducesTo_S9216x8192_S9216_d1 Facts₀.h_S_ j).2 := rfl
  refine (congrFun h1 (ix1 i)).trans (argReduce_at d (iotaInDim S9216x8192 32 1) (constant S_ .f32 0x7F800000#32 : FVec Ideal S_ .f32)
    (constantI S_ 32 0#32) Facts₀.reducesTo_S9216x8192_S9216_d1 Facts₀.h_S_ (ix1 i) (rows d i) ?_ rfl fun p => ?_)
  · show Ideal.ofBits .f32 0x7F800000#32 = ⊤
    simp [Ideal.ofBits, Ideal.ieee]
  constructor
  · rintro ⟨k, hk, rfl⟩
    rw [drop_at] at hk
    subst hk
    exact ⟨k 1, congrArg (fun k' => (d k', BitVec.ofNat 32 (k 1 : ℕ))) (eq_ix2 k)⟩
  · rintro ⟨j, rfl⟩
    exact ⟨ix2 i j, (drop_at i _).mpr rfl, rfl⟩

/-- The reference's encodings. -/
theorem rE_at (i : Fin 9216) (j : Fin 8192) : rE (F := Ideal) x w (ix2 i j) = Row.enc (rows x) (rows w) i j := by
  have h : ∀ k : IVec S9216 32, rCode (F := Ideal) k (ix2 i j)
      = (FloatOps.uitofp .f32 (IntOp.cmpi .eq (k (ix1 i)) (BitVec.ofNat 32 (j : ℕ))) : Ideal .f32) := by
    intro k; pointwise [rCode]
  refine (h _).trans ?_
  rw [rArg_at, Row.uitofp_hot]
  unfold Row.enc
  congr 2
  exact funext fun k => rDist_at x w i k

/-- The reference's code vectors taken. -/
theorem rQ_at (i : Fin 9216) (a : Fin 256) : rQ (F := Ideal) x w (ix2 i a) = Row.quant (rows x) (rows w) i a := by
  have h : ∀ e : FVec Ideal S9216x8192 .f32, rQuant (F := Ideal) e w (ix2 i a) = ∑ k, e (ix2 i k) * w (ix2 k a) := by
    intro e; pointwise [rQuant]
  refine (h _).trans ?_
  exact Finset.sum_congr rfl fun k _ => by rw [rE_at]

/-- The reference's sort puts code 0 at its rank; the other places hold other codes. -/
theorem rSort_at (i : Fin 9216) (j : Fin 8192) :
    ∃ k : Fin 8192, rSort (F := Ideal) d (ix2 i j) = BitVec.ofNat 32 (k : ℕ) ∧ (k = 0 ↔ Row.rank (rows d i) = j) := by
  have e : ∀ k : Fin 8192, Shape.Idx.along (s := S9216x8192) (ix2 i j) 1 k = ix2 i k := by
    intro k
    rw [eq_ix2 (Shape.Idx.along (s := S9216x8192) (ix2 i j) 1 k)]
    exact congrArg₂ ix2 (Function.update_of_ne (by decide) _ _) (Function.update_self _ _ _)
  refine ⟨_, ?_, Row.sortedFrom_eq_zero (rows d i) (fun k k' => comparator_f32_i32_d1 (F := Ideal)
    (d (Shape.Idx.along (s := S9216x8192) (ix2 i j) 1 k), iotaInDim S9216x8192 32 1 (Shape.Idx.along (s := S9216x8192) (ix2 i j) 1 k))
    (d (Shape.Idx.along (s := S9216x8192) (ix2 i j) 1 k'), iotaInDim S9216x8192 32 1 (Shape.Idx.along (s := S9216x8192) (ix2 i j) 1 k')) == 1#1)
    (fun a b => ?_) j⟩
  · refine (sort2_at S9216x8192 1 (by decide) (comparator_f32_i32_d1 (F := Ideal)) d (iotaInDim S9216x8192 32 1) (ix2 i j)).trans ?_
    exact congrArg (BitVec.ofNat 32) (congrArg Fin.val (Function.update_self _ _ _))
  · rw [Row.comparator_iff]
    show d _ < d _ ↔ _
    rw [e a, e b]

/-- The width of the step is small from time 99 on. -/
theorem rScale_at (n : IVec S_ 32) (hn : 99 ≤ (n ix0).toInt) : ∃ y : ℝ, 0 < y ∧ y ≤ 57 / 5000 ∧ (rScale (F := Ideal) n ix0 : EReal) = (y : EReal) := by
  obtain ⟨y, h0, h1, h⟩ := Row.width_le (n ix0) hn
  refine ⟨y, h0, h1, Eq.trans ?_ h⟩
  pointwise [rScale]

/-- The reference's weights are the rank matrix from time 99 on. -/
theorem rP_at (n : IVec S_ 32) (hn : 99 ≤ (n ix0).toInt) (i : Fin 9216) (j : Fin 8192) :
    rP (F := Ideal) x w n (ix2 i j) = Row.ranked (rows x) (rows w) i j := by
  obtain ⟨k, hk, hk0⟩ := rSort_at (rDist (F := Ideal) x w) i j
  obtain ⟨y, h0, h1, hs⟩ := rScale_at n hn
  have h := Row.weight_eq k y h0 h1
  rw [← hk, ← hs] at h
  have hq : ∀ (o : IVec S9216x8192 32) (y : FVec Ideal S_ .f32), rWeight (F := Ideal) o y (ix2 i j)
      = if Ideal.exp (Ideal.div (Ideal.ofBits .f32 3212836864#32 * (FloatOps.sitofp .f32 (o (ix2 i j)) : Ideal .f32)) (y ix0))
          < Ideal.ofBits .f32 8388608#32 then (0 : EReal)
        else Ideal.exp (Ideal.div (Ideal.ofBits .f32 3212836864#32 * (FloatOps.sitofp .f32 (o (ix2 i j)) : Ideal .f32)) (y ix0)) := by
    intro o y
    pointwise [rWeight]
    rw [show (id (constant S_ .f32 0#32 : FVec Ideal S_ .f32) ix0 : Ideal .f32) = (0 : EReal) from Ideal.ofBits_zero_f32]
  have h' : rP (F := Ideal) x w n (ix2 i j) = if k = 0 then (1 : EReal) else 0 := (hq _ _).trans h
  rw [h']
  unfold Row.ranked Row.hot
  rw [show Row.dist (rows x) (rows w) i = rows (rDist (F := Ideal) x w) i from funext fun k => (rDist_at x w i k).symm]
  simp only [hk0]

/-- The reference's straight-through rows. -/
theorem straight_at (i : Fin 9216) (a : Fin 256) :
    rStraight (F := Ideal) (rQ x w) x (ix2 i a) = Row.straight (rows x) (rows w) i a := by
  have h : ∀ q : FVec Ideal S9216x256 .f32, rStraight (F := Ideal) q x (ix2 i a) = x (ix2 i a) + (q (ix2 i a) - x (ix2 i a)) := by
    intro q; pointwise [rStraight]
  rw [h, rQ_at]; rfl

/-- The reference's loss. -/
theorem loss_at : rLoss (F := Ideal) (rQ x w) x ix0 = Row.loss (rows x) (rows w) := by
  have h : ∀ q : FVec Ideal S9216x256 .f32, rLoss (F := Ideal) q x ix0
      = Ideal.ofBits .f32 1048576000#32 * Ideal.div (∑ r, ∑ a, (q (ix2 r a) - x (ix2 r a)) * (q (ix2 r a) - x (ix2 r a))) (Ideal.ofBits .f32 1242562560#32) := by
    intro q; pointwise [rLoss]
  rw [h]
  simp only [rQ_at]; rfl

/-- The reference's perplexity. -/
theorem perp_at : rPerp (F := Ideal) (rE x w) ix0 = Row.perp (rows x) (rows w) := by
  have h : ∀ e : FVec Ideal S9216x8192 .f32, rPerp (F := Ideal) e ix0
      = Ideal.exp (-∑ k, Ideal.div (∑ t, e (ix2 t k)) (Ideal.ofBits .f32 1175453696#32)
        * Ideal.log (Ideal.div (∑ t, e (ix2 t k)) (Ideal.ofBits .f32 1175453696#32) + Ideal.ofBits .f32 786163455#32)) := by
    intro e; pointwise [rPerp]
  rw [h]
  simp only [rE_at]; rfl

/-- The reference's steps. -/
theorem delta_at (n : IVec S_ 32) (hn : 99 ≤ (n ix0).toInt) (k : Fin 8192) (a : Fin 256) :
    rDelta (F := Ideal) (rP x w n) x w (ix2 k a) = Row.delta (rows x) (rows w) k a := by
  have h : ∀ p : FVec Ideal S9216x8192 .f32, rDelta (F := Ideal) p x w (ix2 k a)
      = Ideal.ofBits .f32 981668463#32 * ((∑ t, p (ix2 t k) * x (ix2 t a)) - (∑ t, p (ix2 t k)) * w (ix2 k a)) := by
    intro p; pointwise [rDelta]
  rw [h]
  simp only [rP_at x w n hn]; rfl

/-- The reference's stepped codes. -/
theorem new_at (n : IVec S_ 32) (hn : 99 ≤ (n ix0).toInt) (k : Fin 8192) (a : Fin 256) :
    rNew (F := Ideal) (rP x w n) x w (ix2 k a) = Row.newWeight (rows x) (rows w) k a := by
  have h : ∀ p : FVec Ideal S9216x8192 .f32, rNew (F := Ideal) p x w (ix2 k a)
      = w (ix2 k a) + Ideal.ofBits .f32 981668463#32 * ((∑ t, p (ix2 t k) * x (ix2 t a)) - (∑ t, p (ix2 t k)) * w (ix2 k a)) := by
    intro p; pointwise [rNew]
  rw [h]
  simp only [rP_at x w n hn]; rfl

end Cert.ReferenceIdeal.Own

end
-- ==== Proof.Frames.lean ====
module

public import proofs.«01_k».proof.Proof.Run
public import proofs.«01_k».proof.Proof.RefRun
public import proofs.«01_k».proof.Proof.Gen.Kernel
public import proofs.«01_k».proof.Defs
public import Idealize.ShloMosaic.PureOps.BitExact

@[expose] public section

/-!
# The frames, and the named constants

The kernel as written and the kernel with its two constants named are the same program once a named constant is read as the bits
it was written with, so the run of the second is the run of the first.
-/

set_option maxRecDepth 16384

noncomputable section

namespace Cert.KernelIdeal.Own

open Cert.KernelIdeal Cert.KernelIdeal.Gen
open Idealize.ShloMosaic Idealize.ShloMosaic.TcCoe Idealize.SL.Sem

variable {F : FTy → Type} [FloatOps F] [Named F]

/-- The kernel runs to its end, its arguments unchanged and its counters at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c =>
    ⟨(h.1 c main_arg0 (by decide)).trans (V5_main_arg0 m (outs m) c), (h.1 c main_arg1 (by decide)).trans (V5_main_arg1 m (outs m) c),
      (h.1 c main_arg2 (by decide)).trans (V5_main_arg2 m (outs m) c)⟩, h.2⟩) (run_main m ρ)

end Cert.KernelIdeal.Own

namespace Cert.Kernel.Own

open Cert.Kernel
open Idealize.ShloMosaic Idealize.ShloMosaic.TcCoe Idealize.SL.Sem

/-- At the machine's own bits a named constant is read as the bits it was written with. -/
@[instance_reducible] def asWritten : Named Bits where
  named _ _ {φ} b := Scalar.ofBits φ b

set_option maxHeartbeats 4000000 in
/-- The two programs' bodies are the same. -/
theorem bodies_same : letI := asWritten
    @Eq (Defs nD τ sig (Elt Bits) Λ₀) (Cert.KernelIdeal.defs₀ (F := Bits)) (defs₀ (F := Bits)) := by
  unfold Cert.KernelIdeal.defs₀ defs₀
  refine congrArg Defs.onTc (funext fun l => funext fun a => ?_)
  match l, a with
  | 0, (t, s) => exact rfl
  | 1, (t, s) => exact rfl

set_option maxHeartbeats 4000000 in
/-- The kernel as written runs to its end, its arguments unchanged and its counters at zero. -/
theorem frame : quiescent_Kernel := fun m g _ => by
  letI := asWritten
  have h := Cert.KernelIdeal.Own.frame (F := Bits) m g
  have e : @Eq (Defs nD τ sig (Elt Bits) (Pipeline.Sig Λ₀ (Fin 2) fun p => (pcfgs (F := Bits) p).Adm)) (Cert.KernelIdeal.defs (F := Bits)) (defs (F := Bits)) :=
    congrArg (Pipeline.defs pcfgs) bodies_same
  rw [← e]
  exact h

end Cert.Kernel.Own

namespace Cert.ReferenceIdeal.Own

open Cert.ReferenceIdeal
open Idealize.ShloMosaic Idealize.ShloMosaic.TcCoe Idealize.SL.Sem

/-- The reference runs to its end, its arguments unchanged and its counters at zero. -/
theorem frame : quiescent_ReferenceIdeal := fun m g _ =>
  (θ_run defs _ _).mono (fun r h => ⟨fun c =>
    ⟨(h.1 c main_arg0).trans (line_arg0 _), (h.1 c main_arg1).trans (line_arg1 _), (h.1 c main_arg2).trans (line_arg2 _)⟩, h.2⟩)
    (run_line m g)

end Cert.ReferenceIdeal.Own

namespace Cert.KernelIdeal.Own

open Idealize.ShloMosaic

/-- Each named constant is read as the real the table gives it. -/
theorem preserved : preserves_Kernel_KernelIdeal :=
  ⟨IdealRules.named_const.statement _ _ _ _ _ rfl, IdealRules.named_const.statement _ _ _ _ _ rfl⟩

end Cert.KernelIdeal.Own

end
-- ==== Proof.Agree.lean ====
module

public import proofs.«01_k».proof.Proof.KVal
public import proofs.«01_k».proof.Proof.RVal
public import proofs.«01_k».proof.Proof.Frames

@[expose] public section

/-!
# The kernel and the reference end with the same six results

Both programs' results are the formulas of `Row` over the same two arrays; the two that use the weights are so from `time = 99` on.
-/

set_option maxRecDepth 16384

noncomputable section

namespace Cert.Agree

open Idealize.ShloMosaic Idealize.ShloMosaic.TcCoe Idealize.SL.Sem
open Cert.KernelIdeal.Own Cert.ReferenceIdeal.Own
open Cert.KernelIdeal (nD τ sig main_arg0 main_arg1 main_arg2)

variable (m : (ℓ : Loc nD τ sig) → Buf (Elt Ideal) ℓ) (c : Dev nD)

/-- The tokens. -/
abbrev x : FVec Ideal Cert.ReferenceIdeal.S9216x256 .f32 := m ((c.tc : Thread nD τ).loc main_arg0)
/-- The codes. -/
abbrev w : FVec Ideal Cert.ReferenceIdeal.S8192x256 .f32 := m ((c.tc : Thread nD τ).loc main_arg1)
/-- The time. -/
abbrev n : IVec Cert.ReferenceIdeal.S_ 32 := m ((c.tc : Thread nD τ).loc main_arg2)

/-- The two losses are equal. -/
theorem loss : rLoss (F := Ideal) (rQ (x m c) (w m c)) (x m c) = fin m c Cert.KernelIdeal.main_v9 := by
  funext i; rw [show i = ix0 from funext fun a => a.elim0]
  exact (loss_at (x m c) (w m c)).trans (fin_loss m c).symm

/-- The straight-through rows are equal. -/
theorem straight : rStraight (F := Ideal) (rQ (x m c) (w m c)) (x m c) = fin m c Cert.KernelIdeal.main_v6_1 := by
  funext i; rw [eq_ix2 i]
  exact (straight_at (x m c) (w m c) (i 0) (i 1)).trans (fin_straight m c (i 0) (i 1)).symm

/-- The perplexities are equal. -/
theorem perp : rPerp (F := Ideal) (rE (x m c) (w m c)) = fin m c Cert.KernelIdeal.main_v10 := by
  funext i; rw [show i = ix0 from funext fun a => a.elim0]
  exact (perp_at (x m c) (w m c)).trans (fin_perp m c).symm

/-- The encodings are equal. -/
theorem enc : rE (F := Ideal) (x m c) (w m c) = fin m c Cert.KernelIdeal.main_v6_0 := by
  funext i; rw [eq_ix2 i]
  exact (rE_at (x m c) (w m c) (i 0) (i 1)).trans (fin_enc m c (i 0) (i 1)).symm

/-- From time 99 on the stepped codes are equal. -/
theorem new (h : 99 ≤ (n m c ix0).toInt) :
    rNew (F := Ideal) (rP (x m c) (w m c) (n m c)) (x m c) (w m c) = fin m c Cert.KernelIdeal.main_v8_1 := by
  funext i; rw [eq_ix2 i]
  exact (new_at (x m c) (w m c) (n m c) h (i 0) (i 1)).trans (fin_new m c (i 0) (i 1)).symm

/-- From time 99 on the steps are equal. -/
theorem delta (h : 99 ≤ (n m c ix0).toInt) :
    rDelta (F := Ideal) (rP (x m c) (w m c) (n m c)) (x m c) (w m c) = fin m c Cert.KernelIdeal.main_v8_0 := by
  funext i; rw [eq_ix2 i]
  exact (delta_at (x m c) (w m c) (n m c) h (i 0) (i 1)).trans (fin_delta m c (i 0) (i 1)).symm

/-- The precondition, read: the time is at least 99. -/
theorem time_ge (v : IVec Cert.ReferenceIdeal.S_ 32) (h : cmpi .sge v (constantI Cert.ReferenceIdeal.S_ 32 99#32) = fun _ => 1#1) : 99 ≤ (v ix0).toInt := by
  have h := congrFun h ix0
  by_contra hlt
  have h' : BitVec.ofBool ((99#32).sle (v ix0)) = 1#1 := h
  rw [show (99#32).sle (v ix0) = false from Bool.eq_false_iff.mpr fun e => hlt (BitVec.sle_iff_toInt_le.mp e)] at h'
  exact absurd h' (by decide)

/-- From memories that agree on the arguments, the time at least 99, the two programs end with equal results. -/
theorem algebraic [Cert.Pre_late_step.Facts] : algebraic_KernelIdeal_ReferenceIdeal_pre_late_step := fun m g m' g' hp he => by
  refine ⟨fun c => fin m c Cert.KernelIdeal.main_v9, fun c => fin m c Cert.KernelIdeal.main_v6_1, fun c => fin m c Cert.KernelIdeal.main_v10,
    fun c => fin m c Cert.KernelIdeal.main_v6_0, fun c => fin m c Cert.KernelIdeal.main_v8_1, fun c => fin m c Cert.KernelIdeal.main_v8_0, ?_, ?_⟩
  · exact (θ_run _ _ _).mono (fun r h c =>
      ⟨h.1 c _ (by decide), h.1 c _ (by decide), h.1 c _ (by decide), h.1 c _ (by decide), h.1 c _ (by decide), h.1 c _ (by decide),
        (h.1 c main_arg0 (by decide)).trans (Cert.KernelIdeal.Gen.V5_main_arg0 m (outs m) c),
        (h.1 c main_arg1 (by decide)).trans (Cert.KernelIdeal.Gen.V5_main_arg1 m (outs m) c),
        (h.1 c main_arg2 (by decide)).trans (Cert.KernelIdeal.Gen.V5_main_arg2 m (outs m) c)⟩) (run_main m g)
  · refine (θ_run _ _ _).mono (fun r h c => ?_) (run_line m' g')
    obtain ⟨e0, e1, e2⟩ := he c
    have hn : 99 ≤ (n m c ix0).toInt := time_ge _ (hp c)
    have q : ∀ {α : Type} (f : FVec Ideal Cert.ReferenceIdeal.S9216x256 .f32 → FVec Ideal Cert.ReferenceIdeal.S8192x256 .f32 → IVec Cert.ReferenceIdeal.S_ 32 → α),
        f (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) = f (x m c) (w m c) (n m c) :=
      fun f => by rw [e0, e1, e2]
    exact ⟨(h.1 c _).trans ((line_loss _).trans ((q fun x w _ => rLoss (F := Ideal) (rQ x w) x).trans (loss m c))),
      (h.1 c _).trans ((line_straight _).trans ((q fun x w _ => rStraight (F := Ideal) (rQ x w) x).trans (straight m c))),
      (h.1 c _).trans ((line_perp _).trans ((q fun x w _ => rPerp (F := Ideal) (rE x w)).trans (perp m c))),
      (h.1 c _).trans ((line_enc _).trans ((q fun x w _ => rE (F := Ideal) x w).trans (enc m c))),
      (h.1 c _).trans ((line_new _).trans ((q fun x w n => rNew (F := Ideal) (rP x w n) x w).trans (new m c hn))),
      (h.1 c _).trans ((line_delta _).trans ((q fun x w n => rDelta (F := Ideal) (rP x w n) x w).trans (delta m c hn))),
      (h.1 c _).trans (line_arg0 _), (h.1 c _).trans (line_arg1 _), (h.1 c _).trans (line_arg2 _)⟩

end Cert.Agree

end
-- ==== Proof.lean ====
module

public import proofs.«01_k».proof.Defs
public import proofs.«01_k».proof.Proof.Agree

@[expose] public section

noncomputable section

namespace Cert.Proof

open Idealize.ShloMosaic Idealize.SL.Sem

/-- The precondition's operations take no side conditions. -/
theorem late_step_facts : Cert.Pre_late_step.Facts := {}

/-- Every claim holds. -/
theorem claim : Cert.Claim := ⟨Cert.Kernel.Gen.facts, Cert.KernelIdeal.Gen.facts, Cert.ReferenceIdeal.Gen.facts, late_step_facts,
  Cert.Kernel.Own.frame, fun m g _ => Cert.KernelIdeal.Own.frame m g, fun m g _ => Cert.KernelIdeal.Own.frame m g,
  Cert.ReferenceIdeal.Own.frame, fun m g _ => Cert.ReferenceIdeal.Own.frame m g trivial,
  Cert.KernelIdeal.Own.preserved, @Cert.Agree.algebraic late_step_facts⟩

end Cert.Proof

end
